-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 4096, 8, 128]⟩ ⟨4, ![1, 4096, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 4096, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v101) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Pre_finite_ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S256x1024 : Shape := ⟨2, ![256, 1024]⟩
abbrev S2x256x1024 : Shape := ⟨3, ![2, 256, 1024]⟩
abbrev S2x4096x128 : Shape := ⟨3, ![2, 4096, 128]⟩
abbrev S2 : Shape := ⟨1, ![2]⟩
abbrev S_ : Shape := ⟨0, ![]⟩
abbrev S1 : Shape := ⟨1, ![1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x128 : Shape := ⟨2, ![256, 128]⟩
abbrev S128x256 : Shape := ⟨2, ![128, 256]⟩
abbrev S4096x256 : Shape := ⟨2, ![4096, 256]⟩
abbrev S256 : Shape := ⟨1, ![256]⟩
abbrev S1x256 : Shape := ⟨2, ![1, 256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S256x1024, .bf16⟩
  | .local _ .vmem, ⟨5, _⟩ => ⟨S2x256x1024, .bf16⟩
  | .local _ .vmem, ⟨6, _⟩ => ⟨S2x256x1024, .bf16⟩
  | .local _ .vmem, ⟨7, _⟩ => ⟨S2x4096x128, .f32⟩
  | .local _ .vmem, ⟨8, _⟩ => ⟨S2x4096x128, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_362 : BitVec 32 := 1#32
  let v412 : BitVec 32 := Scalar.xori v2 c1_i32_362
  let c1_i32_373 : BitVec 32 := 1#32
  let v419 : BitVec 32 := Scalar.muli v412 c1_i32_373
  let v420 : BitVec 32 := Scalar.addi c0_i32_374 v419
  v420.toNat
def k0_dev4 (d0 : Dev nD) : Nat :=
  let c0_i32_419 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_407 : BitVec 32 := 2#32
  let v452 : BitVec 32 := Scalar.xori v2 c2_i32_407
  let c1_i32_418 : BitVec 32 := 1#32
  let v459 : BitVec 32 := Scalar.muli v452 c1_i32_418
  let v460 : BitVec 32 := Scalar.addi c0_i32_419 v459
  v460.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x256x4096 : Shape := ⟨3, ![1, 256, 4096]⟩
abbrev S1x256x32x128 : Shape := ⟨4, ![1, 256, 32, 128]⟩
abbrev S_ : Shape := ⟨0, ![]⟩
abbrev S1x32x256x1 : Shape := ⟨4, ![1, 32, 256, 1]⟩
abbrev S1x1024x32x128 : Shape := ⟨4, ![1, 1024, 32, 128]⟩
abbrev S1x32x256x1024 : Shape := ⟨4, ![1, 32, 256, 1024]⟩
abbrev S1x32x256 : Shape := ⟨3, ![1, 32, 256]⟩
abbrev S1x256x32x1 : Shape := ⟨4, ![1, 256, 32, 1]⟩
abbrev S1x32x128x256 : Shape := ⟨4, ![1, 32, 128, 256]⟩

abbrev nBuf : Space → Nat
  | .hbm => 122
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S1x256x4096, .f32⟩
  | .hbm, ⟨6, _⟩ => ⟨S1x256x32x128, .f32⟩
  | .hbm, ⟨7, _⟩ => ⟨S_, .f32⟩
  | .hbm, ⟨8, _⟩ => ⟨S1x256x32x128, .f32⟩
  | .hbm, ⟨9, _⟩ => ⟨S_, .f32⟩
  | .hbm, ⟨10, _⟩ => ⟨S1x32x256x1, .f32⟩
  | .hbm, ⟨11, _⟩ => ⟨S_, .f32⟩
  | .hbm, ⟨12, _⟩ => ⟨S1x32x256x1, .f32⟩
  | .hbm, ⟨13, _⟩ => ⟨S1x1024x32x128, .f32⟩
  | .hbm, ⟨14, _⟩ => ⟨S1x1024x32x128, .f32⟩
  | .hbm, ⟨15, _⟩ => ⟨S1x32x256x1024, .f32⟩
  | .hbm, ⟨16, _⟩ => ⟨S_, .f32⟩
  | .hbm, ⟨17, _⟩ => ⟨S1x32x256x1024, .f32⟩
  | .hbm, ⟨18, _⟩ => ⟨S1x32x256x1024, .f32⟩
  | .hbm, ⟨19, _⟩ => ⟨S_, .f32⟩
  | .hbm, ⟨20, _⟩ => ⟨S1x32x256, .f32⟩
  | .hbm, ⟨21, _⟩ => ⟨S1x32x256x1, .f32⟩
  | .hbm, ⟨22, _⟩ => ⟨S1x32x256x1, .f32⟩
  | .hbm, ⟨23, _⟩ => ⟨S1x32x256x1, .f32⟩
  | .hbm, ⟨24, _⟩ => ⟨S1x32x256x1, .f32⟩
  | .hbm, ⟨25, _⟩ => ⟨S1x32x256x1024, .f32⟩
  | .hbm, ⟨26, _⟩ => ⟨S1x32x256x1024, .f32⟩
  | .hbm, ⟨27, _⟩ => ⟨S1x32x256x1024, .f32⟩
  | .hbm, ⟨28, _⟩ => ⟨S1x32x256x1, .f32⟩
  | .hbm, ⟨29, _⟩ => ⟨S_, .f32⟩
  | .hbm, ⟨30, _⟩ => ⟨S1x32x256, .f32⟩
  | .hbm, ⟨31, _⟩ => ⟨S1x32x256x1, .f32⟩
  | .hbm, ⟨32, _⟩ => ⟨S1x32x256x1, .f32⟩
  | .hbm, ⟨33, _⟩ => ⟨S1x256x32x1, .f32⟩
  | .hbm, ⟨34, _⟩ => ⟨S1x256x32x128, .f32⟩
  | .hbm, ⟨35, _⟩ => ⟨S1x256x32x128, .f32⟩
  | .hbm, ⟨36, _⟩ => ⟨S1x32x128x256, .f32⟩
  | .hbm, ⟨37, _⟩ => ⟨S1x256x32x128, .f32⟩
  | .hbm, ⟨38, _⟩ => ⟨S1x256x32x128, .f32⟩
  | .hbm, ⟨39, _⟩ => ⟨S1x1024x32x128, .f32⟩
  | .hbm, ⟨40, _⟩ => ⟨S1x1024x32x128, .f32⟩
  | .hbm, ⟨41, _⟩ => ⟨S1x32x256x1024, .f32⟩
  | .hbm, ⟨42, _⟩ => ⟨S_, .f32⟩
  | .hbm, ⟨43, _⟩ => ⟨S1x32x256x1024, .f32⟩
  | .hbm, ⟨44, _⟩ => ⟨S1x32x256x1024, .f32⟩
  | .hbm, ⟨45, _⟩ => ⟨S_, .f32⟩
  | .hbm, ⟨46, _⟩ => ⟨S1x32x256, .f32⟩
  | .hbm, ⟨47, _⟩ => ⟨S1x32x256x1, .f32⟩
  | .hbm, ⟨48, _⟩ => ⟨S1x32x256x1, .f32⟩
  | .hbm, ⟨49, _⟩ => ⟨S1x32x256x1, .f32⟩
  | .hbm, ⟨50, _⟩ => ⟨S1x32x256x1, .f32⟩
  | .hbm, ⟨51, _⟩ => ⟨S1x32x256x1024, .f32⟩
  | .hbm, ⟨52, _⟩ => ⟨S1x32x256x1024, .f32⟩
  | .hbm, ⟨53, _⟩ => ⟨S1x32x256x1024, .f32⟩
  | .hbm, ⟨54, _⟩ => ⟨S1x32x256x1, .f32⟩
  | .hbm, ⟨55, _⟩ => ⟨S_, .f32⟩
  | .hbm, ⟨56, _⟩ => ⟨S1x32x256, .f32⟩
  | .hbm, ⟨57, _⟩ => ⟨S1x32x256x1, .f32⟩
  | .hbm, ⟨58, _⟩ => ⟨S1x32x256x1, .f32⟩
  | .hbm, ⟨59, _⟩ => ⟨S1x256x32x1, .f32⟩
  | .hbm, ⟨60, _⟩ => ⟨S1x256x32x128, .f32⟩
  | .hbm, ⟨61, _⟩ => ⟨S1x256x32x128, .f32⟩
  | .hbm, ⟨62, _⟩ => ⟨S1x32x128x256, .f32⟩
  | .hbm, ⟨63, _⟩ => ⟨S1x256x32x128, .f32⟩
  | .hbm, ⟨64, _⟩ => ⟨S1x256x32x128, .f32⟩
  | .hbm, ⟨65, _⟩ => ⟨S1x1024x32x128, .f32⟩
  | .hbm, ⟨66, _⟩ => ⟨S1x1024x32x128, .f32⟩
  | .hbm, ⟨67, _⟩ => ⟨S1x32x256x1024, .f32⟩
  | .hbm, ⟨68, _⟩ => ⟨S_, .f32⟩
  | .hbm, ⟨69, _⟩ => ⟨S1x32x256x1024, .f32⟩
  | .hbm, ⟨70, _⟩ => ⟨S1x32x256x1024, .f32⟩
  | .hbm, ⟨71, _⟩ => ⟨S_, .f32⟩
  | .hbm, ⟨72, _⟩ => ⟨S1x32x256, .f32⟩
  | .hbm, ⟨73, _⟩ => ⟨S1x32x256x1, .f32⟩
  | .hbm, ⟨74, _⟩ => ⟨S1x32x256x1, .f32⟩
  | .hbm, ⟨75, _⟩ => ⟨S1x32x256x1, .f32⟩
  | .hbm, ⟨76, _⟩ => ⟨S1x32x256x1, .f32⟩
  | .hbm, ⟨77, _⟩ => ⟨S1x32x256x1024, .f32⟩
  | .hbm, ⟨78, _⟩ => ⟨S1x32x256x1024, .f32⟩
  | .hbm, ⟨79, _⟩ => ⟨S1x32x256x1024, .f32⟩
  | .hbm, ⟨80, _⟩ => ⟨S1x32x256x1, .f32⟩
  | .hbm, ⟨81, _⟩ => ⟨S_, .f32⟩
  | .hbm, ⟨82, _⟩ => ⟨S1x32x256, .f32⟩
  | .hbm, ⟨83, _⟩ => ⟨S1x32x256x1, .f32⟩
  | .hbm, ⟨84, _⟩ => ⟨S1x32x256x1, .f32⟩
  | .hbm, ⟨85, _⟩ => ⟨S1x256x32x1, .f32⟩
  | .hbm, ⟨86, _⟩ => ⟨S1x256x32x128, .f32⟩
  | .hbm, ⟨87, _⟩ => ⟨S1x256x32x128, .f32⟩
  | .hbm, ⟨88, _⟩ => ⟨S1x32x128x256, .f32⟩
  | .hbm, ⟨89, _⟩ => ⟨S1x256x32x128, .f32⟩
  | .hbm, ⟨90, _⟩ => ⟨S1x256x32x128, .f32⟩
  | .hbm, ⟨91, _⟩ => ⟨S1x1024x32x128, .f32⟩
  | .hbm, ⟨92, _⟩ => ⟨S1x1024x32x128, .f32⟩
  | .hbm, ⟨93, _⟩ => ⟨S1x32x256x1024, .f32⟩
  | .hbm, ⟨94, _⟩ => ⟨S_, .f32⟩
  | .hbm, ⟨95, _⟩ => ⟨S1x32x256x1024, .f32⟩
  | .hbm, ⟨96, _⟩ => ⟨S1x32x256x1024, .f32⟩
  | .hbm, ⟨97, _⟩ => ⟨S_, .f32⟩
  | .hbm, ⟨98, _⟩ => ⟨S1x32x256, .f32⟩
  | .hbm, ⟨99, _⟩ => ⟨S1x32x256x1, .f32⟩
  | .hbm, ⟨100, _⟩ => ⟨S1x32x256x1, .f32⟩
  | .hbm, ⟨101, _⟩ => ⟨S1x32x256x1, .f32⟩
  | .hbm, ⟨102, _⟩ => ⟨S1x32x256x1, .f32⟩
  | .hbm, ⟨103, _⟩ => ⟨S1x32x256x1024, .f32⟩
  | .hbm, ⟨104, _⟩ => ⟨S1x32x256x1024, .f32⟩
  | .hbm, ⟨105, _⟩ => ⟨S1x32x256x1024, .f32⟩
  | .hbm, ⟨106, _⟩ => ⟨S1x32x256x1, .f32⟩
  | .hbm, ⟨107, _⟩ => ⟨S_, .f32⟩
  | .hbm, ⟨108, _⟩ => ⟨S1x32x256, .f32⟩
  | .hbm, ⟨109, _⟩ => ⟨S1x32x256x1, .f32⟩
  | .hbm, ⟨110, _⟩ => ⟨S1x32x256x1, .f32⟩
  | .hbm, ⟨111, _⟩ => ⟨S1x256x32x1, .f32⟩
  | .hbm, ⟨112, _⟩ => ⟨S1x256x32x128, .f32⟩
  | .hbm, ⟨113, _⟩ => ⟨S1x256x32x128, .f32⟩
  | .hbm, ⟨114, _⟩ => ⟨S1x32x128x256, .f32⟩
  | .hbm, ⟨115, _⟩ => ⟨S1x256x32x128, .f32⟩
  | .hbm, ⟨116, _⟩ => ⟨S1x256x32x128, .f32⟩
  | .hbm, ⟨117, _⟩ => ⟨S1x256x32x1, .f32⟩
  | .hbm, ⟨118, _⟩ => ⟨S1x256x32x128, .f32⟩
  | .hbm, ⟨119, _⟩ => ⟨S1x256x32x128, .f32⟩
  | .hbm, ⟨120, _⟩ => ⟨S1x256x4096, .f32⟩
  | .hbm, ⟨121, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Proof.Protocol.lean ====
/-
The hand-over between the four devices: which buffers and counters they share, who pays whom, and in which order
they may wait.

Every device `c` exchanges its partial result twice: first with `near c` (its number with the lowest bit flipped),
then with `far c` (the second bit flipped). Before the first exchange each device signals both of its neighbours on
the ring, which are `near c` and `third c` (both bits flipped), and waits for two signals. Five counters a device
take part: the barrier counter, and for each exchange the counter of its own departing copy and the counter of the
arriving copy.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state's algebra -/

/-- The rounds of the five shared counters a device. -/
abbrev UB : Type := URounds (GSem nD τ sig) Bool
/-- The pipeline's own rounds, those of the shared counters, and the counters local copies draw their tokens from. -/
abbrev UU : Type := UR sig nD τ × (UB × Counters)

local notation "𝕄" => MT nD τ sig Unit (Elt F) ℕ UU ℕ

/-- Where the launch's own protocol lives, -/
abbrev EP : Emb (UR sig nD τ) (MT nD τ sig Unit (Elt F) ℕ UU ℕ) := embL
/-- and the shared one. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- The latter lies where invariants may hold it. -/
instance ER_landsIn : (ER : Emb UB 𝕄).LandsIn (upEmb : UEmb _ 𝕄) := by unfold ER; infer_instance

/-! ## The devices -/

/-- The partner of the first exchange, of the second, and the device next on the ring that is neither. -/
abbrev near (c : Dev nD) : Dev nD := ⟨k0_dev3 c, k0_dev3_lt c⟩
/-- The partner two bits away, -/
abbrev far (c : Dev nD) : Dev nD := ⟨k0_dev4 c, k0_dev4_lt c⟩
/-- and the device across, both bits away. -/
abbrev third (c : Dev nD) : Dev nD := far (near c)

/-- Each of the three is its own inverse: -/
theorem near_near (c : Dev nD) : near (near c) = c := by revert c; decide +kernel
/-- so for the far partner, -/
theorem far_far (c : Dev nD) : far (far c) = c := by revert c; decide +kernel
/-- and for the device across. -/
theorem third_third (c : Dev nD) : third (third c) = c := by revert c; decide +kernel
/-- Any two of them compose to the third: near of across is far, -/
theorem near_third (c : Dev nD) : near (third c) = far c := by revert c; decide +kernel
/-- across of near is far, -/
theorem third_near (c : Dev nD) : third (near c) = far c := by revert c; decide +kernel
/-- far of across is near, -/
theorem far_third (c : Dev nD) : far (third c) = near c := by revert c; decide +kernel
/-- far of near is across. -/
theorem far_near (c : Dev nD) : far (near c) = third c := by revert c; decide +kernel
/-- The near partner is not the device across. -/
theorem near_ne_third (c : Dev nD) : near c ≠ third c := by revert c; decide +kernel

/-- The two signals of the body name the ring neighbours: `third` then `near` on an even device, the other way round on
    an odd one. -/
theorem signal_order (c : Dev nD) :
    ((⟨k0_dev1 c, k0_dev1_lt c⟩ : Dev nD) = third c ∧ (⟨k0_dev2 c, k0_dev2_lt c⟩ : Dev nD) = near c)
      ∨ ((⟨k0_dev1 c, k0_dev1_lt c⟩ : Dev nD) = near c ∧ (⟨k0_dev2 c, k0_dev2_lt c⟩ : Dev nD) = third c) := by
  revert c; decide +kernel

/-! ## The counters -/

/-- The barrier's counter. -/
abbrev barS : Sem sig := (SemArray.scalar (sig.barrier 0 rfl) : Sems sig S_).sem
/-- Element `j` of a pair of DMA counters, spelt as the body spells it. -/
abbrev el0 (a : DmaSems sig S2) : DmaSem sig := ((a.slice (Rect.unit (s := S2) ![0] S1.size inb_S2_S1_0)).squeeze S_ squeezes_S1_S_).sem
/-- The second counter of a pair. -/
abbrev el1 (a : DmaSems sig S2) : DmaSem sig := ((a.slice (Rect.unit (s := S2) ![1] S1.size inb_S2_S1_1)).squeeze S_ squeezes_S1_S_).sem

/-- The five shared counters: barrier; departure and arrival of the first exchange; of the second. -/
abbrev shared : Fin 5 → SemLoc sig := fun
  | 0 => .reg barS
  | 1 => .dma (el0 cc0_scratch7)
  | 2 => .dma (el0 cc0_scratch8)
  | 3 => .dma (el1 cc0_scratch7)
  | 4 => .dma (el1 cc0_scratch8)

/-- The five are distinct. -/
theorem shared_injective : Function.Injective shared := by decide

/-- Shared counter `k` of device `c`. -/
abbrev cell (c : Dev nD) (k : Fin 5) : GSem nD τ sig := ((c : Thread nD τ), shared k)

/-- Which shared counter a semaphore is, if any. -/
def role (g : GSem nD τ sig) : Option (Fin 5) :=
  if g.1.2 = .tc then (List.finRange 5).find? (fun k => g.2 = shared k) else none

/-- Its number is read back from it. -/
theorem role_cell (c : Dev nD) (k : Fin 5) : role (cell c k) = some k := by
  unfold role; rw [if_pos rfl]
  show (List.finRange 5).find? (fun j => decide (shared k = shared j)) = some k
  revert k; decide

/-! ## The buffers the exchanges use -/

/-- The buffer sent from, -/
abbrev sM : Memref sig .tc .vmem S2x256x1024 .bf16 := Memref.whole cc0_scratch1
/-- and the buffer landed in. -/
abbrev cM : Memref sig .tc .vmem S2x256x1024 .bf16 := Memref.whole cc0_scratch2
/-- The half of the first exchange, -/
abbrev half0 : Rect S2x256x1024 := Rect.unit (s := S2x256x1024) ![0, 0, 0] S1x256x1024.size inb_S2x256x1024_S1x256x1024_0_0_0
/-- and of the second. -/
abbrev half1 : Rect S2x256x1024 := Rect.unit (s := S2x256x1024) ![1, 0, 0] S1x256x1024.size inb_S2x256x1024_S1x256x1024_1_0_0
/-- One half of such a buffer as a matrix of its own. -/
abbrev part0 (M : Memref sig .tc .vmem S2x256x1024 .bf16) : Memref sig .tc .vmem S256x1024 .bf16 :=
  (M.slice half0 (fun _ => rfl)).squeeze S256x1024 squeezes_S1x256x1024_S256x1024
/-- The second half, as a matrix. -/
abbrev part1 (M : Memref sig .tc .vmem S2x256x1024 .bf16) : Memref sig .tc .vmem S256x1024 .bf16 :=
  (M.slice half1 (fun _ => rfl)).squeeze S256x1024 squeezes_S1x256x1024_S256x1024

/-- Device `c` holds the memref `M`'s own elements outright, at contents `f`. -/
abbrev own {sp : Space} {S : Shape} {e : EltTy} (c : Dev nD) (M : Memref sig .tc sp S e) (f : Buf (Elt F) (M.view.loc (c : Thread nD τ))) : sProp 𝕄 :=
  M.view.loc (c : Thread nD τ) ↦[M.view.set]{fullShare} f

/-- The credit one exchange moves. -/
abbrev N : ℕ := (part0 cM).view.dmaCredit
/-- A copy's credit is positive. -/
theorem N_pos : 0 < N := View.dmaCredit_pos _ (by decide)

end Cert.KernelIdeal.Mesh

end
-- ==== Proof.Values.lean ====
/-
What each device computes, as functions of the memory at launch: its projected queries, the eight normalised heads, its
part of the result, and the sums after the first and the second exchange.
-/
module

public import proofs.«01_k».proof.Proof.Protocol

@[expose] public section

noncomputable section

namespace Cert.KernelIdeal.Mesh

open Cert.KernelIdeal Cert.KernelIdeal.Gen
open Idealize.ShloMosaic Idealize.ShloMosaic.TcCoe

variable {F : FTy → Type} [FloatOps F]
variable (m : (ℓ : Loc nD τ sig) → Buf (Elt F) ℓ)

/-! ## The buffers -/

/-- The staged tokens, -/
abbrev xM : Memref sig .tc .vmem S1x256x1024 .f32 := Memref.whole cc0_stg0_0
/-- the query weights, -/
abbrev wqM : Memref sig .tc .vmem S1024x1024 .f32 := Memref.whole cc0_stg1_0
/-- the output weights, -/
abbrev woM : Memref sig .tc .vmem S1024x1024 .f32 := Memref.whole cc0_stg2_0
/-- and the result. -/
abbrev outM : Memref sig .tc .vmem S1x256x1024 .f32 := Memref.whole cc0_stg3_0
/-- The heads side by side. -/
abbrev attnM : Memref sig .tc .vmem S256x1024 .bf16 := Memref.whole cc0_scratch0
/-- The key buffer, -/
abbrev kM : Memref sig .tc .vmem S2x4096x128 .f32 := Memref.whole cc0_scratch3
/-- and the value buffer. -/
abbrev vM : Memref sig .tc .vmem S2x4096x128 .f32 := Memref.whole cc0_scratch4
/-- The keys of a device, -/
abbrev kArr : Memref sig .tc .hbm S1x4096x8x128 .f32 := Memref.whole main_arg2
/-- and its values. -/
abbrev vArr : Memref sig .tc .hbm S1x4096x8x128 .f32 := Memref.whole main_arg3

/-- The first slot of a buffer, -/
abbrev slab0 : Rect S2x4096x128 := Rect.unit (s := S2x4096x128) ![0, 0, 0] S1x4096x128.size inb_S2x4096x128_S1x4096x128_0_0_0
/-- and the second. -/
abbrev slab1 : Rect S2x4096x128 := Rect.unit (s := S2x4096x128) ![1, 0, 0] S1x4096x128.size inb_S2x4096x128_S1x4096x128_1_0_0
/-- One of the two slots of the key (value) buffer as a matrix of its own. -/
abbrev slot0 (M : Memref sig .tc .vmem S2x4096x128 .f32) : Memref sig .tc .vmem S4096x128 .f32 :=
  (M.slice slab0 (fun _ => rfl)).squeeze S4096x128 squeezes_S1x4096x128_S4096x128
/-- The second slot, as a matrix. -/
abbrev slot1 (M : Memref sig .tc .vmem S2x4096x128 .f32) : Memref sig .tc .vmem S4096x128 .f32 :=
  (M.slice slab1 (fun _ => rfl)).squeeze S4096x128 squeezes_S1x4096x128_S4096x128

/-- The whole of a staged matrix, and of the query block. -/
abbrev allW : Rect S1024x1024 := Rect.unit (s := S1024x1024) ![0, 0] S1024x1024.size inb_S1024x1024_S1024x1024_0_0
/-- The whole of a tokens-shaped array, -/
abbrev allX : Rect S1x256x1024 := Rect.unit (s := S1x256x1024) ![0, 0, 0] S1x256x1024.size inb_S1x256x1024_S1x256x1024_0_0_0
/-- and of the heads. -/
abbrev allA : Rect S256x1024 := Rect.unit (s := S256x1024) ![0, 0] S256x1024.size inb_S256x1024_S256x1024_0_0

/-! ## The values -/

/-- The staged contents: the query block, the query weights, the output weights. -/
def xAt (c : Dev nD) : (cc0_stg0_0 : Ref sig .tc).ty.Contents (Elt F) :=
  (win0_0.blk (0 : Fin 1)).view.read (Elt F) (m ((c : Thread nD τ).loc main_arg0))
/-- The query weights a device finds, -/
def wqAt (c : Dev nD) : (cc0_stg1_0 : Ref sig .tc).ty.Contents (Elt F) :=
  (win0_1.blk (0 : Fin 1)).view.read (Elt F) (m ((c : Thread nD τ).loc main_arg1))
/-- and the output weights. -/
def woAt (c : Dev nD) : (cc0_stg2_0 : Ref sig .tc).ty.Contents (Elt F) :=
  (win0_2.blk (0 : Fin 1)).view.read (Elt F) (m ((c : Thread nD τ).loc main_arg4))

/-- The projected queries. -/
def qAt (c : Dev nD) : FVec F S256x1024 .f32 :=
  k0_pay2 (xM.view.readAt (Elt F) allX.toLoadRect (xAt m c)) (wqM.view.readAt (Elt F) allW.toLoadRect (wqAt m c))

/-- Head `h` of the keys (values) held in `M`, as its copy carries it: a matrix of 4096 rows of 128. -/
def headOf (M : Memref sig .tc .hbm S1x4096x8x128 .f32) (f : M.view.ty.Contents (Elt F)) (h : ℕ)
    (hh : ∀ a : Fin 4, (![0, 0, h, 0] : Fin 4 → ℕ) a + S1x4096x1x128.size a ≤ S1x4096x8x128.size a) : S4096x128.Idx → Elt F .f32 :=
  ((M.slice (Rect.unit (s := S1x4096x8x128) ![0, 0, h, 0] S1x4096x1x128.size hh) (fun _ => rfl)).squeeze S4096x128
    squeezes_S1x4096x1x128_S4096x128).view.read (Elt F) f
/-- A matrix of 4096 rows of 128, as a slot of the buffer reads back. -/
def slab (w : S4096x128.Idx → Elt F .f32) : Vec F S1x4096x128 .f32 := fun i => w ((Shape.reshapeEquiv squeezes_S1x4096x128_S4096x128.numel_eq).symm i)

/-- Head `h` of the keys, as it stands in its slot, -/
abbrev kIn (c : Dev nD) (h : ℕ) (hh : ∀ a : Fin 4, (![0, 0, h, 0] : Fin 4 → ℕ) a + S1x4096x1x128.size a ≤ S1x4096x8x128.size a) : Vec F S1x4096x128 .f32 :=
  slab (headOf kArr (m ((c : Thread nD τ).loc main_arg2)) h hh)
/-- and of the values. -/
abbrev vIn (c : Dev nD) (h : ℕ) (hh : ∀ a : Fin 4, (![0, 0, h, 0] : Fin 4 → ℕ) a + S1x4096x1x128.size a ≤ S1x4096x8x128.size a) : Vec F S1x4096x128 .f32 :=
  slab (headOf vArr (m ((c : Thread nD τ).loc main_arg3)) h hh)

/-! The eight normalised heads, in the order they are computed. -/
def head0 (c : Dev nD) : FVec F S256x128 .bf16 :=
  k0_pay3 (qAt m c) (kIn m c 0 inb_S1x4096x8x128_S1x4096x1x128_0_0_0_0) (vIn m c 0 inb_S1x4096x8x128_S1x4096x1x128_0_0_0_0)
/-- Head 1, -/
def head1 (c : Dev nD) : FVec F S256x128 .bf16 :=
  k0_pay5 (k0_pay4 (qAt m c)) (kIn m c 1 inb_S1x4096x8x128_S1x4096x1x128_0_0_1_0) (vIn m c 1 inb_S1x4096x8x128_S1x4096x1x128_0_0_1_0)
/-- head 2, -/
def head2 (c : Dev nD) : FVec F S256x128 .bf16 :=
  k0_pay7 (k0_pay6 (qAt m c) (kIn m c 2 inb_S1x4096x8x128_S1x4096x1x128_0_0_2_0) (vIn m c 2 inb_S1x4096x8x128_S1x4096x1x128_0_0_2_0))
/-- head 3, -/
def head3 (c : Dev nD) : FVec F S256x128 .bf16 :=
  k0_pay8 (qAt m c) (kIn m c 3 inb_S1x4096x8x128_S1x4096x1x128_0_0_3_0) (vIn m c 3 inb_S1x4096x8x128_S1x4096x1x128_0_0_3_0)
/-- head 4, -/
def head4 (c : Dev nD) : FVec F S256x128 .bf16 :=
  k0_pay11 (k0_pay9 (qAt m c) (kIn m c 4 inb_S1x4096x8x128_S1x4096x1x128_0_0_4_0)) (k0_pay10 (qAt m c) (kIn m c 4 inb_S1x4096x8x128_S1x4096x1x128_0_0_4_0)) (vIn m c 4 inb_S1x4096x8x128_S1x4096x1x128_0_0_4_0)
/-- head 5, -/
def head5 (c : Dev nD) : FVec F S256x128 .bf16 :=
  k0_pay12 (qAt m c) (kIn m c 5 inb_S1x4096x8x128_S1x4096x1x128_0_0_5_0) (vIn m c 5 inb_S1x4096x8x128_S1x4096x1x128_0_0_5_0)
/-- head 6, -/
def head6 (c : Dev nD) : FVec F S256x128 .bf16 :=
  k0_pay15 (k0_pay13 (qAt m c)) k0_pay14 (kIn m c 6 inb_S1x4096x8x128_S1x4096x1x128_0_0_6_0) (vIn m c 6 inb_S1x4096x8x128_S1x4096x1x128_0_0_6_0)
/-- and head 7, each by the kernel's own steps. -/
def head7 (c : Dev nD) : FVec F S256x128 .bf16 :=
  k0_pay16 (qAt m c) (kIn m c 7 inb_S1x4096x8x128_S1x4096x1x128_0_0_7_0) (vIn m c 7 inb_S1x4096x8x128_S1x4096x1x128_0_0_7_0)

/-- The eight heads side by side, as the stores leave them (the last store first). -/
def attnPieces (c : Dev nD) : List (View.Piece (Elt F) S256x1024 .bf16) :=
  [⟨Rect.unit (s := S256x1024) ![0, 896] S256x128.size inb_S256x1024_S256x128_0_896, head7 m c⟩,
    ⟨Rect.unit (s := S256x1024) ![0, 768] S256x128.size inb_S256x1024_S256x128_0_768, head6 m c⟩,
    ⟨Rect.unit (s := S256x1024) ![0, 640] S256x128.size inb_S256x1024_S256x128_0_640, head5 m c⟩,
    ⟨Rect.unit (s := S256x1024) ![0, 512] S256x128.size inb_S256x1024_S256x128_0_512, head4 m c⟩,
    ⟨Rect.unit (s := S256x1024) ![0, 384] S256x128.size inb_S256x1024_S256x128_0_384, head3 m c⟩,
    ⟨Rect.unit (s := S256x1024) ![0, 256] S256x128.size inb_S256x1024_S256x128_0_256, head2 m c⟩,
    ⟨Rect.unit (s := S256x1024) ![0, 128] S256x128.size inb_S256x1024_S256x128_0_128, head1 m c⟩,
    ⟨Rect.unit (s := S256x1024) ![0, 0] S256x128.size inb_S256x1024_S256x128_0_0, head0 m c⟩]
/-- The heads, read together. -/
def attnAt (c : Dev nD) : Vec F S256x1024 .bf16 := attnM.view.readCov (attnPieces m c) allA.toLoadRect

/-- The device's part of the result. -/
def partAt (c : Dev nD) : FVec F S1x256x1024 .f32 := k0_pay17 (woM.view.readAt (Elt F) allW.toLoadRect (woAt m c)) (attnAt m c)
/-- What it sends in the first exchange, -/
def snt0 (c : Dev nD) : FVec F S1x256x1024 .bf16 := k0_pay18 (partAt m c)
/-- the sum after it, -/
def sum1 (c : Dev nD) : FVec F S1x256x1024 .f32 := k0_pay19 (partAt m c) (snt0 m (near c))
/-- what it sends in the second, -/
def snt1 (c : Dev nD) : FVec F S1x256x1024 .bf16 := k0_pay20 (sum1 m c)
/-- and the result. -/
def outAt (c : Dev nD) : FVec F S1x256x1024 .f32 := k0_pay1 (k0_pay21 (sum1 m c)) (snt1 m (far c))

end Cert.KernelIdeal.Mesh

end
-- ==== Proof.Schedule.lean ====
/-
What every signal and every copy hands over, with the contents, and the order in which the waits may stand.

A signal on the barrier hands the receiver a half of the sender's landing buffer. The signal from `near c` opens the half
the first exchange writes, the one from `third c` opens the other half: `third c` has no second exchange with `c`, so
`c` passes that half on to `near c` with its first copy, and `near c`, whose second partner is `third c`, writes it.
-/
module

public import proofs.«01_k».proof.Proof.Values

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## What is handed over -/

/-- The landing half of the first (second) exchange on device `c`, at contents that read back as `v`. -/
def landed0 (c : Dev nD) (v : Vec F S1x256x1024 .bf16) : sProp 𝕄 :=
  iprop(∃ f, ⌜(cM : Memref sig .tc .vmem S2x256x1024 .bf16).view.readAt (Elt F) half0.toLoadRect f = v⌝ ∗ own c (part0 cM) f)
/-- What the landing of the second exchange gives. -/
def landed1 (c : Dev nD) (v : Vec F S1x256x1024 .bf16) : sProp 𝕄 :=
  iprop(∃ f, ⌜(cM : Memref sig .tc .vmem S2x256x1024 .bf16).view.readAt (Elt F) half1.toLoadRect f = v⌝ ∗ own c (part1 cM) f)

/-- A landing half on device `c` to be written, with the mark that `c`'s arrival counter stands at its start. -/
def open0 (c : Dev nD) : sProp 𝕄 := iprop((∃ f : Buf (Elt F) ((part0 cM).view.loc (c : Thread nD τ)), own c (part0 cM) f) ∗ reached ER (cell c 2) 0)
/-- What the far partner is given by the barrier to send into. -/
def open1 (c : Dev nD) : sProp 𝕄 := iprop((∃ f : Buf (Elt F) ((part1 cM).view.loc (c : Thread nD τ)), own c (part1 cM) f) ∗ reached ER (cell c 4) 0)

/-- What the payer of duty `d` of counter `k` of device `c` hands it. -/
def pay (c : Dev nD) (k : Fin 5) (d : Bool) : sProp 𝕄 :=
  match k with
  | 0 => if d then open1 (third c) else open0 (near c)
  | 1 => iprop(∃ f : Buf (Elt F) ((part0 sM).view.loc (c : Thread nD τ)), own c (part0 sM) f)
  | 2 => iprop(landed0 c (snt0 m (near c)) ∗ open1 (far c))
  | 3 => iprop(∃ f : Buf (Elt F) ((part1 sM).view.loc (c : Thread nD τ)), own c (part1 sM) f)
  | 4 => landed1 c (snt1 m (far c))

/-- These may be kept in an invariant: the first landing place, -/
instance open0_storable (c : Dev nD) : BI.Storable (upEmb : UEmb _ 𝕄) (open0 (F := F) c) := by unfold open0 own; infer_instance
/-- the second, -/
instance open1_storable (c : Dev nD) : BI.Storable (upEmb : UEmb _ 𝕄) (open1 (F := F) c) := by unfold open1 own; infer_instance
/-- the first landing, -/
instance landed0_storable (c : Dev nD) (v) : BI.Storable (upEmb : UEmb _ 𝕄) (landed0 (F := F) c v) := by unfold landed0 own; infer_instance
/-- the second, -/
instance landed1_storable (c : Dev nD) (v) : BI.Storable (upEmb : UEmb _ 𝕄) (landed1 (F := F) c v) := by unfold landed1 own; infer_instance

/-- and so every payload by counter, -/
instance pay_storable (c : Dev nD) (k : Fin 5) (d : Bool) : BI.Storable (upEmb : UEmb _ 𝕄) (pay m c k d) := by
  unfold pay own
  split
  · split <;> infer_instance
  all_goals infer_instance

/-- One round. The barrier counter has two duties of one unit each, every other shared counter one of a copy's credit. -/
def Rd : Rounds.Schedule (GSem nD τ sig) Bool 𝕄 where
  duties g r := if r = 0 then (match role g with | none => ∅ | some k => if k = 0 then Finset.univ else {false}) else ∅
  unitless _ := False
  amount g _ _ := if role g = some 0 then 1 else N
  payload g _ d := match role g with | none => iprop(emp) | some k => pay m g.1.1 k d
  amount_pos g _ _ _ := by
    by_cases h : role g = some 0
    · rw [if_pos h]; exact Nat.one_pos
    · rw [if_neg h]; exact N_pos

/-- and every payload of the schedule. -/
instance Rd_payload_storable (g : GSem nD τ sig) (r : ℕ) (d : Bool) : BI.Storable (upEmb : UEmb _ 𝕄) ((Rd m).payload g r d) := by
  dsimp only [Rd]
  split <;> infer_instance

section Tables
variable (c : Dev nD)

/-- The barrier has two duties; -/
theorem duties_zero : (Rd m).duties (cell c 0) 0 = Finset.univ := by
  dsimp only [Rd]; rw [if_pos rfl, role_cell]; rfl
/-- every other counter one; -/
theorem duties_succ (k : Fin 5) (hk : k ≠ 0) : (Rd m).duties (cell c k) 0 = {false} := by
  dsimp only [Rd]; rw [if_pos rfl, role_cell]; exact if_neg hk
/-- and none after round 0. -/
theorem duties_later (g : GSem nD τ sig) : ∀ r, 1 ≤ r → (Rd m).duties g r = ∅ := fun r hr => if_neg (by omega)

/-- A barrier signal counts one; -/
theorem amount_zero (d : Bool) : (Rd m).amount (cell c 0) 0 d = 1 := by dsimp only [Rd]; exact if_pos (role_cell c 0)
/-- a copy its credit. -/
theorem amount_succ (k : Fin 5) (hk : k ≠ 0) (d : Bool) : (Rd m).amount (cell c k) 0 d = N := by
  dsimp only [Rd]; rw [role_cell]; exact if_neg fun h => hk (Option.some.inj h)

/-- The barrier expects two; -/
theorem expect_zero : (Rd m).expect (cell c 0) 0 = 2 := by
  unfold Schedule.expect Schedule.amountOf
  rw [duties_zero, Finset.sum_congr rfl fun d _ => amount_zero m c d]; rfl
/-- any other counter one copy. -/
theorem expect_succ (k : Fin 5) (hk : k ≠ 0) : (Rd m).expect (cell c k) 0 = N := by
  unfold Schedule.expect Schedule.amountOf; rw [duties_succ m c k hk, Finset.sum_singleton, amount_succ m c k hk]

/-- The payload of a counter is the one of its number. -/
theorem payload_cell (k : Fin 5) (d : Bool) : (Rd m).payload (cell c k) 0 d = pay m c k d := by
  dsimp only [Rd]; rw [role_cell]

/-- All that the barrier wait brings, -/
theorem rest_zero : bigSep ((Rd m).duties (cell c 0) 0 \ ∅) (fun d => (Rd m).payload (cell c 0) 0 d) = iprop(open0 (near c) ∗ open1 (third c)) := by
  rw [Finset.sdiff_empty, duties_zero, bigSep_univ_eq_bigSepL [false, true] (by decide) (by decide), bigSepL_cons_cons, bigSepL_singleton,
    payload_cell, payload_cell]
  rfl
/-- and each other wait. -/
theorem rest_succ (k : Fin 5) (hk : k ≠ 0) :
    bigSep ((Rd m).duties (cell c k) 0 \ ∅) (fun d => (Rd m).payload (cell c k) 0 d) = pay m c k false := by
  rw [Finset.sdiff_empty, duties_succ m c k hk, bigSep_singleton, payload_cell]

end Tables

/-! ## What is owed, and the order of the waits -/

/-- Device `c` owes its two partners' arrival counters a copy's credit, and its two ring neighbours' barriers a unit. -/
def O₂ (c : Dev nD) : CellTallies nD τ sig Unit := tallyAt (cell (far c) 4) () N
/-- What is owed after the barrier, -/
def O₁ (c : Dev nD) : CellTallies nD τ sig Unit := O₂ c + tallyAt (cell (near c) 2) () N
/-- and at the start. -/
def O₀ (c : Dev nD) : CellTallies nD τ sig Unit := (O₁ c + tallyAt (cell (near c) 0) () 1) + tallyAt (cell (third c) 0) () 1

/-- Every counter of a device's main core has one level; -/
def L (g : GSem nD τ sig) : Finset Unit := if g.1.2 = .tc then {()} else ∅
/-- The barrier at 1, the arrivals at 2 and 3, everything else at 0. -/
def lvOf : Option (Fin 5) → ℕ
  | some 0 => 1
  | some 2 => 2
  | some 4 => 3
  | _ => 0
/-- it is the one of its number. -/
def lv (g : GSem nD τ sig) (_ : Unit) : ℕ := lvOf (role g)

/-- No other counter has one; -/
theorem L_of_ne (g : GSem nD τ sig) (h : g.1.2 ≠ .tc) : L g = ∅ := if_neg h
/-- every such counter has it. -/
theorem L_tc (c : Dev nD) (sm : SemLoc sig) : L ((c : Thread nD τ), sm) = {()} := if_pos rfl
/-- The level of a shared counter. -/
theorem lv_cell (c : Dev nD) (k : Fin 5) (u : Unit) : lv (cell c k) u = lvOf (some k) := by unfold lv; rw [role_cell]

/-- A tally at one counter is positive only there; -/
theorem tally_pos {g g' : GSem nD τ sig} {n : ℕ} {u : Unit} (h : 0 < tallyAt (Ix := Unit) g () n g' u) : g' = g := by
  rw [tallyAt_apply] at h
  by_contra hn
  rw [if_neg fun h' => hn h'.1] at h
  exact Nat.lt_irrefl 0 h

/-- a sum only where one of the two is. -/
theorem tally_add_pos {A B : CellTallies nD τ sig Unit} {g : GSem nD τ sig} {u : Unit} (h : 0 < (A + B) g u) : 0 < A g u ∨ 0 < B g u := by
  rw [Pi.add_apply, Finsupp.add_apply] at h
  omega

/-- Where something is owed before the second exchange, -/
theorem O₂_pos {c : Dev nD} {g : GSem nD τ sig} {u : Unit} (h : 0 < O₂ c g u) : g = cell (far c) 4 := tally_pos h
/-- before the first, -/
theorem O₁_pos {c : Dev nD} {g : GSem nD τ sig} {u : Unit} (h : 0 < O₁ c g u) : g = cell (far c) 4 ∨ g = cell (near c) 2 :=
  (tally_add_pos h).imp O₂_pos tally_pos
/-- and at the start. -/
theorem O₀_pos {c : Dev nD} {g : GSem nD τ sig} {u : Unit} (h : 0 < O₀ c g u) :
    (g = cell (far c) 4 ∨ g = cell (near c) 2) ∨ g = cell (near c) 0 ∨ g = cell (third c) 0 := by
  rcases tally_add_pos h with h | h
  · rcases tally_add_pos h with h | h
    · exact Or.inl (O₁_pos h)
    · exact Or.inr (Or.inl (tally_pos h))
  · exact Or.inr (Or.inr (tally_pos h))

/-- A wait whose level lies below every counter a device owes may stand. -/
theorem mayWait_of (c : Dev nD) (sm : SemLoc sig) (O : CellTallies nD τ sig Unit) (n : ℕ) (hn : lv ((c : Thread nD τ), sm) () ≤ n)
    (hO : ∀ g u, 0 < O g u → ∃ d k, g = cell d k ∧ n < lvOf (some k)) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact hn)
    (fun g u hg => by obtain ⟨d, k, rfl, hk⟩ := hO g u hg; rw [lv_cell]; exact hk)

/-- A counter that is none of the barrier's and the arrivals' may be waited on whatever is owed. -/
theorem mayWait_low (c : Dev nD) (sm : SemLoc sig) (h : lv ((c : Thread nD τ), sm) () = 0) (O : CellTallies nD τ sig Unit)
    (hO : O = O₀ c ∨ O = O₁ c ∨ O = O₂ c ∨ O = 0) : (levAts L lv : sProp 𝕄) ⊢ MayWait (c : Thread nD τ) sm () O := by
  refine mayWait_of c sm O 0 (le_of_eq h) fun g u hg => ?_
  rcases hO with rfl | rfl | rfl | rfl
  · rcases O₀_pos hg with (rfl | rfl) | rfl | rfl
    · exact ⟨_, 4, rfl, by decide⟩
    · exact ⟨_, 2, rfl, by decide⟩
    · exact ⟨_, 0, rfl, by decide⟩
    · exact ⟨_, 0, rfl, by decide⟩
  · rcases O₁_pos hg with rfl | rfl
    · exact ⟨_, 4, rfl, by decide⟩
    · exact ⟨_, 2, rfl, by decide⟩
  · exact ⟨_, 4, O₂_pos hg, by decide⟩
  · exact absurd hg (Nat.lt_irrefl 0)

/-- At the barrier a device owes the two arrivals only, -/
theorem mayWait_bar (c : Dev nD) : (levAts L lv : sProp 𝕄) ⊢ MayWait (c : Thread nD τ) (shared 0) () (O₁ c) :=
  mayWait_of c _ _ 1 (by rw [lv_cell]; decide) fun g u hg => by
    rcases O₁_pos hg with rfl | rfl
    · exact ⟨_, 4, rfl, by decide⟩
    · exact ⟨_, 2, rfl, by decide⟩
/-- and at the first arrival the second arrival only. -/
theorem mayWait_arr (c : Dev nD) : (levAts L lv : sProp 𝕄) ⊢ MayWait (c : Thread nD τ) (shared 2) () (O₂ c) :=
  mayWait_of c _ _ 2 (by rw [lv_cell]; decide) fun g u hg => ⟨_, 4, O₂_pos hg, by decide⟩

end Cert.KernelIdeal.Mesh

end
-- ==== Proof.Halves.lean ====
/-
Where the two halves of a buffer lie, and what is read back of a half after a write through its matrix form.
-/
module

public import proofs.«01_k».proof.Proof.Values

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

section Squeezed

variable {S S' : Shape} {sp : Space} {e : EltTy} (M : Memref sig .tc sp S e) (r : Rect S) (hr : ∀ a, r.stride a = 1) (h : r.shape.Squeezes S')

/-- The elements under a squeezed slice are those under its rectangle. -/
theorem set_squeezed : ((M.slice r hr).squeeze S' h).view.set = M.view.setOn r.set := by
  show ((M.view.slice r).reshape S' h.numel_eq).set = _
  rw [View.set_reshape]
  exact View.set_slice _ _

/-- A matrix written through a squeezed slice is read back through its rectangle, re-indexed; -/
theorem readAt_write_squeezed (f : M.view.ty.Contents (Elt F)) (w : S'.Idx → Elt F e) :
    M.view.readAt (Elt F) r.toLoadRect (((M.slice r hr).squeeze S' h).view.write (Elt F) f w Finset.univ)
      = fun i => w ((Shape.reshapeEquiv h.numel_eq).symm i) := by
  show (M.view.slice r).read (Elt F) (((M.view.slice r).reshape S' h.numel_eq).write (Elt F) f w Finset.univ) = _
  rw [View.write_reshape_univ, View.read_write_univ]

/-- and so is the last of several. -/
theorem readAt_writes_squeezed (f : M.view.ty.Contents (Elt F)) (w : S'.Idx → Elt F e) (l : List (View.Piece (Elt F) S' e)) :
    M.view.readAt (Elt F) r.toLoadRect (((M.slice r hr).squeeze S' h).view.writes (Elt F) f (⟨Rect.whole S', w⟩ :: l))
      = fun i => w ((Shape.reshapeEquiv h.numel_eq).symm i) := by
  rw [← View.write_univ_eq_writes_whole]
  exact readAt_write_squeezed M r hr h _ w

/-- What is sent through a squeezed slice of one buffer and lands through a squeezed slice of another reads there as
    it does here. -/
theorem readAt_landed {sp' : Space} (M' : Memref sig .tc sp' S e) (f : M.view.ty.Contents (Elt F)) (g : M'.view.ty.Contents (Elt F)) :
    M.view.readAt (Elt F) r.toLoadRect (((M.slice r hr).squeeze S' h).view.write (Elt F) f
        (((M'.slice r hr).squeeze S' h).view.read (Elt F) g) Finset.univ)
      = M'.view.readAt (Elt F) r.toLoadRect g := by
  rw [readAt_write_squeezed]
  funext i
  show (M'.view.slice r).read (Elt F) g (Shape.reshapeEquiv h.numel_eq ((Shape.reshapeEquiv h.numel_eq).symm i)) = _
  rw [Equiv.apply_symm_apply]
  rfl

end Squeezed

/-! ## The two halves of a buffer -/

section Two

variable {S S' : Shape} {e : EltTy} (b : Ref sig .tc) (r r' : Rect b.ty.shape) (hr : ∀ a, r.stride a = 1) (hr' : ∀ a, r'.stride a = 1)
  (h : r.shape.Squeezes S') (h' : r'.shape.Squeezes S') (hd : Disjoint r.set r'.set) (hu : r.set ∪ r'.set = Finset.univ) (c : Dev nD)

/-- The elements of a squeezed unit-stride part of a whole array are those of its rectangle. -/
theorem set_half (r : Rect b.ty.shape) (hr : ∀ a, r.stride a = 1) (h : r.shape.Squeezes S') :
    (((Memref.whole b).slice r hr).squeeze S' h).view.set = r.set := by
  show (((View.whole b).slice r).reshape S' h.numel_eq).set = _
  rw [View.set_reshape]
  exact View.set_slice_whole b r

include hd hu in
/-- A whole buffer is its two halves, when they lie apart and make it up; -/
theorem whole_split (f : Buf (Elt F) ((c : Thread nD τ).loc b)) :
    (((c : Thread nD τ).loc b) ↦{fullShare} f : sProp 𝕄)
      ⊢ iprop(own c (((Memref.whole b).slice r hr).squeeze S' h) f ∗ own c (((Memref.whole b).slice r' hr').squeeze S' h') f) := by
  unfold own
  rw [set_half b r hr h, set_half b r' hr' h', ← hu]
  exact (pointsTo_union hd).1

include hd hu in
/-- and two such halves, at whatever contents, are the whole buffer at some. -/
theorem whole_join (f g : Buf (Elt F) ((c : Thread nD τ).loc b)) :
    iprop(own c (((Memref.whole b).slice r hr).squeeze S' h) f ∗ own c (((Memref.whole b).slice r' hr').squeeze S' h') g)
      ⊢ iprop(∃ k : Buf (Elt F) ((c : Thread nD τ).loc b), ((c : Thread nD τ).loc b) ↦{fullShare} k : sProp 𝕄) := by
  unfold own
  rw [set_half b r hr h, set_half b r' hr' h']
  iintro H
  iexists (r'.set.piecewise g f)
  rw [← hu]
  iapply (pointsTo_join hd)
  iexact H

end Two

/-- The two halves of an exchange buffer are apart, -/
theorem halves_disjoint : Disjoint half0.set half1.set := by
  rw [Finset.disjoint_left]
  intro y h0 h1
  have a := (Rect.mem_set_unit.mp h0 0).2
  have b := (Rect.mem_set_unit.mp h1 0).1
  exact absurd (lt_of_lt_of_le a b) (lt_irrefl _)
/-- and together the whole. -/
theorem halves_cover : half0.set ∪ half1.set = Finset.univ := by
  refine Finset.eq_univ_of_forall fun y => ?_
  rw [Finset.mem_union, Rect.mem_set_unit, Rect.mem_set_unit]
  have h0 : (y 0).val < 2 := (y 0).isLt
  have h1 : (y 1).val < 256 := (y 1).isLt
  have h2 : (y 2).val < 1024 := (y 2).isLt
  by_cases h : (y 0).val = 0
  · left; intro a; fin_cases a
    · exact ⟨Nat.zero_le _, by show (y 0).val < 0 + 1; omega⟩
    · exact ⟨Nat.zero_le _, by show (y 1).val < 0 + 256; omega⟩
    · exact ⟨Nat.zero_le _, by show (y 2).val < 0 + 1024; omega⟩
  · right; intro a; fin_cases a
    · exact ⟨by show 1 ≤ (y 0).val; omega, by show (y 0).val < 1 + 1; omega⟩
    · exact ⟨Nat.zero_le _, by show (y 1).val < 0 + 256; omega⟩
    · exact ⟨Nat.zero_le _, by show (y 2).val < 0 + 1024; omega⟩
/-- The two slots of a key or value buffer are apart, -/
theorem slabs_disjoint : Disjoint slab0.set slab1.set := by
  rw [Finset.disjoint_left]
  intro y h0 h1
  have a := (Rect.mem_set_unit.mp h0 0).2
  have b := (Rect.mem_set_unit.mp h1 0).1
  exact absurd (lt_of_lt_of_le a b) (lt_irrefl _)
/-- and together the whole. -/
theorem slabs_cover : slab0.set ∪ slab1.set = Finset.univ := by
  refine Finset.eq_univ_of_forall fun y => ?_
  rw [Finset.mem_union, Rect.mem_set_unit, Rect.mem_set_unit]
  have h0 : (y 0).val < 2 := (y 0).isLt
  have h1 : (y 1).val < 4096 := (y 1).isLt
  have h2 : (y 2).val < 128 := (y 2).isLt
  by_cases h : (y 0).val = 0
  · left; intro a; fin_cases a
    · exact ⟨Nat.zero_le _, by show (y 0).val < 0 + 1; omega⟩
    · exact ⟨Nat.zero_le _, by show (y 1).val < 0 + 4096; omega⟩
    · exact ⟨Nat.zero_le _, by show (y 2).val < 0 + 128; omega⟩
  · right; intro a; fin_cases a
    · exact ⟨by show 1 ≤ (y 0).val; omega, by show (y 0).val < 1 + 1; omega⟩
    · exact ⟨Nat.zero_le _, by show (y 1).val < 0 + 4096; omega⟩
    · exact ⟨Nat.zero_le _, by show (y 2).val < 0 + 128; omega⟩

end Cert.KernelIdeal.Mesh

end
-- ==== Proof.Steps.lean ====
/-
The steps of a device's run in which it meets another: the signals and the barrier wait, the two copies, the waits for them.
-/
module

public import proofs.«01_k».proof.Proof.Schedule
public import proofs.«01_k».proof.Proof.Halves
public import Idealize.ShloMosaic.Lib.VecWindow

@[expose] public section

noncomputable section

namespace Cert.KernelIdeal.Mesh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Fin 5 → ℕ) (c : Dev nD)

/-- No loop needs a variant. -/
abbrev 𝒱₀ : Variants := Variants.none

/-! ## What a device starts from -/

/-- The invariants of the counters device `c` waits on and of those it pays. -/
def invs : sProp 𝕄 :=
  iprop(cellInv ER (Rd m) (K (c, 0)) (cell c 0) ∗ cellInv ER (Rd m) (K (c, 1)) (cell c 1) ∗ cellInv ER (Rd m) (K (c, 2)) (cell c 2)
    ∗ cellInv ER (Rd m) (K (c, 3)) (cell c 3) ∗ cellInv ER (Rd m) (K (c, 4)) (cell c 4)
    ∗ cellInv ER (Rd m) (K (near c, 0)) (cell (near c) 0) ∗ cellInv ER (Rd m) (K (third c, 0)) (cell (third c) 0)
    ∗ cellInv ER (Rd m) (K (near c, 2)) (cell (near c) 2) ∗ cellInv ER (Rd m) (K (far c, 4)) (cell (far c) 4))

/-- The invariants may be copied. -/
instance invs_persistent : BI.Persistent (invs m K c) := by unfold invs; infer_instance

/-- Its positions on its own counters; the marks of those it pays, and of its arrivals, which it hands on. -/
def places : sProp 𝕄 :=
  iprop(atPos ER (cell c 0) 0 ∅ 0 ∗ atPos ER (cell c 1) 0 ∅ 0 ∗ atPos ER (cell c 2) 0 ∅ 0 ∗ atPos ER (cell c 3) 0 ∅ 0 ∗ atPos ER (cell c 4) 0 ∅ 0)
/-- The rounds a device knows to be reached. -/
def marks : sProp 𝕄 :=
  iprop(reached ER (cell (near c) 0) 0 ∗ reached ER (cell (third c) 0) 0 ∗ reached ER (cell (near c) 2) 0 ∗ reached ER (cell (far c) 4) 0
    ∗ reached ER (cell c 1) 0 ∗ reached ER (cell c 2) 0 ∗ reached ER (cell c 3) 0 ∗ reached ER (cell c 4) 0)

/-- These may be copied. -/
instance marks_persistent : BI.Persistent (marks (F := F) c) := by unfold marks; infer_instance

/-- The tokens of the six duties it pays. -/
def payToks : sProp 𝕄 :=
  iprop(dutyTok ER (cell (near c) 0) 0 false ∗ dutyTok ER (cell (third c) 0) 0 true ∗ dutyTok ER (cell c 1) 0 false
    ∗ dutyTok ER (cell (near c) 2) 0 false ∗ dutyTok ER (cell c 3) 0 false ∗ dutyTok ER (cell (far c) 4) 0 false)

/-- All of a device's part in the protocol. -/
def ghost : sProp 𝕄 := iprop(invs m K c ∗ places c ∗ marks c ∗ payToks c)

/-- The credit of its three waits. -/
def creds : sProp 𝕄 := iprop(cred (tallyAt (cell c 0) () 2) ∗ cred (tallyAt (cell c 2) () N) ∗ cred (tallyAt (cell c 4) () N))

/-! ## The two signals and the barrier wait -/

/-- The two signals of the barrier may be sent in either order. -/
theorem owed_swap : O₀ c = (O₁ c + tallyAt (cell (third c) 0) () 1) + tallyAt (cell (near c) 0) () 1 := by
  unfold O₀; rw [add_right_comm]

/-- What `c` hands `near c` is what `near c` waits for, -/
theorem hand0 : iprop((∃ f : Buf (Elt F) ((part0 cM).view.loc (c : Thread nD τ)), own c (part0 cM) f) ∗ reached ER (cell c 2) 0)
    ⊢ (Rd m).payload (cell (near c) 0) 0 false := by
  rw [payload_cell]
  show _ ⊢ open0 (near (near c))
  rw [near_near]; exact .rfl
/-- and likewise for `third c`. -/
theorem hand1 : iprop((∃ f : Buf (Elt F) ((part1 cM).view.loc (c : Thread nD τ)), own c (part1 cM) f) ∗ reached ER (cell c 4) 0)
    ⊢ (Rd m).payload (cell (third c) 0) 0 true := by
  rw [payload_cell]
  show _ ⊢ open1 (third (third c))
  rw [third_third]; exact .rfl

/-- A signal to `near c` hands it the first landing half of `c`, -/
theorem signal_near {α : Type} {Q : α → sProp 𝕄} (k : PUnit → Prog (TpuEff nD τ sig (Elt F) Λ₀ .tc) α) (n : ℕ) (hn : n = 1)
    (O : CellTallies nD τ sig Unit) (W : Waits sig Unit) :
    iprop(invs m K c ∗ marks c ∗ owes (c : Thread nD τ) (O + tallyAt (cell (near c) 0) () 1) W ∗ dutyTok ER (cell (near c) 0) 0 false
        ∗ (∃ f : Buf (Elt F) ((part0 cM).view.loc (c : Thread nD τ)), own c (part0 cM) f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (near c : Thread nD τ) barS n) k) Q) := by
  subst hn
  unfold invs marks
  iintro ⟨⟨-, -, -, -, -, #HI, -, -, -⟩, ⟨#Hr, -, -, -, -, #Ha, -, -⟩, HO, Ht, Hf⟩ Hk
  iapply (Rounds.wp_signal 𝒱₀ ER (Rd m) (c : Thread nD τ) none (dst := (near c : Thread nD τ)) (κ := K (near c, 0)) (r := 0) (d := false)
      (by rw [duties_zero]; exact Finset.mem_univ _) (amount_zero m (near c) false) () O rfl) $$ [HO Ht Hf]
  · isplitr; · iexact HI
    isplitl [HO]; · iexact HO
    isplitl [Ht]; · iexact Ht
    isplitl [Hf]
    · iapply (hand0 m c)
      isplitl [Hf]; · iexact Hf
      iexact Ha
    iexact Hr
  iexact Hk

/-- and a signal to `third c` the second. -/
theorem signal_third {α : Type} {Q : α → sProp 𝕄} (k : PUnit → Prog (TpuEff nD τ sig (Elt F) Λ₀ .tc) α) (n : ℕ) (hn : n = 1)
    (O : CellTallies nD τ sig Unit) (W : Waits sig Unit) :
    iprop(invs m K c ∗ marks c ∗ owes (c : Thread nD τ) (O + tallyAt (cell (third c) 0) () 1) W ∗ dutyTok ER (cell (third c) 0) 0 true
        ∗ (∃ f : Buf (Elt F) ((part1 cM).view.loc (c : Thread nD τ)), own c (part1 cM) f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (third c : Thread nD τ) barS n) k) Q) := by
  subst hn
  unfold invs marks
  iintro ⟨⟨-, -, -, -, -, -, #HI, -, -⟩, ⟨-, #Hr, -, -, -, -, -, #Ha⟩, HO, Ht, Hf⟩ Hk
  iapply (Rounds.wp_signal 𝒱₀ ER (Rd m) (c : Thread nD τ) none (dst := (third c : Thread nD τ)) (κ := K (third c, 0)) (r := 0) (d := true)
      (by rw [duties_zero]; exact Finset.mem_univ _) (amount_zero m (third c) true) () O rfl) $$ [HO Ht Hf]
  · isplitr; · iexact HI
    isplitl [HO]; · iexact HO
    isplitl [Ht]; · iexact Ht
    isplitl [Hf]
    · iapply (hand1 m c)
      isplitl [Hf]; · iexact Hf
      iexact Ha
    iexact Hr
  iexact Hk

/-- The barrier wait: both neighbours' landing halves come with it. -/
theorem arrive {α : Type} {Q : α → sProp 𝕄} (k : PUnit → Prog (TpuEff nD τ sig (Elt F) Λ₀ .tc) α) (W : Waits sig Unit) :
    iprop(invs m K c ∗ levAts L lv ∗ owes (c : Thread nD τ) (O₁ c) W ∗ cred (tallyAt (cell c 0) () 2) ∗ atPos ER (cell c 0) 0 ∅ 0)
      ⊢ iprop(((owes (c : Thread nD τ) (O₁ c) (insert (shared 0, ()) W) ∗ atPos ER (cell c 0) (0 + 1) ∅ 0 ∗ open0 (near c) ∗ open1 (third c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  unfold invs
  iintro ⟨⟨#HI, -⟩, #Hlev, HO, Hc, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := O₁ c) (W := W) (R := 0) (m := 0) (T := ∅)
      (by rw [expect_zero])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_zero m c)) $$ Hpay
  iapply Hk
  isplitl [HO]; · iexact HO
  isplitl [Hat]; · iexact Hat
  iexact Hp

/-- The two signals, in whichever order the device sends them, and the wait for the two neighbours'. -/
theorem meet {α : Type} {Q : α → sProp 𝕄} (k : PUnit → Prog (TpuEff nD τ sig (Elt F) Λ₀ .tc) α) (d₁ d₂ : Dev nD)
    (hd : (d₁ = third c ∧ d₂ = near c) ∨ (d₁ = near c ∧ d₂ = third c)) (n₁ n₂ n₃ : ℕ) (h₁ : n₁ = 1) (h₂ : n₂ = 1) (h₃ : n₃ = 2) (W : Waits sig Unit) :
    iprop(invs m K c ∗ marks c ∗ levAts L lv ∗ owes (c : Thread nD τ) (O₀ c) W
        ∗ dutyTok ER (cell (near c) 0) 0 false ∗ dutyTok ER (cell (third c) 0) 0 true
        ∗ (∃ f : Buf (Elt F) ((part0 cM).view.loc (c : Thread nD τ)), own c (part0 cM) f)
        ∗ (∃ f : Buf (Elt F) ((part1 cM).view.loc (c : Thread nD τ)), own c (part1 cM) f)
        ∗ cred (tallyAt (cell c 0) () 2) ∗ atPos ER (cell c 0) 0 ∅ 0)
      ⊢ iprop(((owes (c : Thread nD τ) (O₁ c) (insert (shared 0, ()) W) ∗ atPos ER (cell c 0) (0 + 1) ∅ 0 ∗ open0 (near c) ∗ open1 (third c))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.semSignal (d₁ : Thread nD τ) barS n₁) fun _ => .op (.semSignal (d₂ : Thread nD τ) barS n₂) fun _ => .op (.semWait barS n₃) k) Q) := by
  subst h₃
  iintro ⟨#HI, #HM, #Hlev, HO, Htn, Htt, Hf0, Hf1, Hc, Hat⟩ Hk
  rcases hd with ⟨rfl, rfl⟩ | ⟨rfl, rfl⟩
  · unfold O₀
    iapply (signal_third m K c _ n₁ h₁ (O₁ c + tallyAt (cell (near c) 0) () 1) W) $$ [HO Htt Hf1]
    · isplitr; · iexact HI
      isplitr; · iexact HM
      isplitl [HO]; · iexact HO
      isplitl [Htt]; · iexact Htt
      iexact Hf1
    iintro HO
    iapply (signal_near m K c _ n₂ h₂ (O₁ c) W) $$ [HO Htn Hf0]
    · isplitr; · iexact HI
      isplitr; · iexact HM
      isplitl [HO]; · iexact HO
      isplitl [Htn]; · iexact Htn
      iexact Hf0
    iintro HO
    iapply (arrive m K c k W) $$ [HO Hc Hat]
    · isplitr; · iexact HI
      isplitr; · iexact Hlev
      isplitl [HO]; · iexact HO
      isplitl [Hc]; · iexact Hc
      iexact Hat
    iexact Hk
  · rw [owed_swap]
    iapply (signal_near m K c _ n₁ h₁ (O₁ c + tallyAt (cell (third c) 0) () 1) W) $$ [HO Htn Hf0]
    · isplitr; · iexact HI
      isplitr; · iexact HM
      isplitl [HO]; · iexact HO
      isplitl [Htn]; · iexact Htn
      iexact Hf0
    iintro HO
    iapply (signal_third m K c _ n₂ h₂ (O₁ c) W) $$ [HO Htt Hf1]
    · isplitr; · iexact HI
      isplitr; · iexact HM
      isplitl [HO]; · iexact HO
      isplitl [Htt]; · iexact Htt
      iexact Hf1
    iintro HO
    iapply (arrive m K c k W) $$ [HO Hc Hat]
    · isplitr; · iexact HI
      isplitr; · iexact Hlev
      isplitl [HO]; · iexact HO
      isplitl [Hc]; · iexact Hc
      iexact Hat
    iexact Hk

/-- The result's buffer, stored whole and loaded whole. -/
theorem load_stored (w : Vec F S1x256x1024 .f32) (l : List (View.Piece (Elt F) S1x256x1024 .f32)) :
    (outM : Memref sig .tc .vmem S1x256x1024 .f32).view.readCov (⟨allX, w⟩ :: l) allX.toLoadRect = w := View.readCov_full _ _ _ _ _
/-- A load of the whole result is its contents. -/
theorem load_whole (f : Buf (Elt F) ((Memref.whole cc0_stg3_0).view.loc (c : Thread nD τ))) :
    (outM : Memref sig .tc .vmem S1x256x1024 .f32).view.readAt (Elt F) allX.toLoadRect f = f := by
  refine Memref.readAt_unit_zero (Elt F) cc0_stg3_0 ?_ _ f
  funext a; fin_cases a <;> rfl
/-- What its last store leaves. -/
theorem stored (f : Buf (Elt F) ((Memref.whole cc0_stg3_0).view.loc (c : Thread nD τ))) (w : Vec F S1x256x1024 .f32)
    (l : List (View.Piece (Elt F) S1x256x1024 .f32)) :
    (outM : Memref sig .tc .vmem S1x256x1024 .f32).view.writes (Elt F) f (⟨allX, w⟩ :: l) = w :=
  (load_whole c _).symm.trans (View.readAt_writes_full _ _ _ _ _ _)

/-! ## The two copies -/

/-- The level of any counter of a device. -/
theorem lv_of (sm : SemLoc sig) : lv ((c : Thread nD τ), sm) () = lvOf ((List.finRange 5).find? fun j => decide (sm = shared j)) := by
  unfold lv role; rw [if_pos rfl]

/-- A copy's source half comes back, -/
theorem sent0 (fs : Buf (Elt F) ((part0 sM : Memref sig .tc .vmem S256x1024 .bf16).view.loc (c : Thread nD τ))) :
    (own c (part0 sM) fs : sProp 𝕄) ⊢ (Rd m).payload (cell c 1) 0 false := by
  rw [payload_cell]
  show _ ⊢ iprop(∃ f : Buf (Elt F) ((part0 sM).view.loc (c : Thread nD τ)), own c (part0 sM) f)
  iintro H; iexists fs; iexact H

/-- The first copy, landed, is the payload of the near partner's counter. -/
theorem lands0 (fs : Buf (Elt F) ((part0 sM : Memref sig .tc .vmem S256x1024 .bf16).view.loc (c : Thread nD τ)))
    (fd : Buf (Elt F) ((part0 cM : Memref sig .tc .vmem S256x1024 .bf16).view.loc (near c : Thread nD τ)))
    (hs : (sM : Memref sig .tc .vmem S2x256x1024 .bf16).view.readAt (Elt F) half0.toLoadRect fs = snt0 m c) :
    (iprop(own (near c) (part0 cM) ((part0 cM).view.write (Elt F) fd ((part0 sM).view.read (Elt F) fs) Finset.univ) ∗ open1 (third c)) : sProp 𝕄)
      ⊢ (Rd m).payload (cell (near c) 2) 0 false := by
  rw [payload_cell]
  show _ ⊢ iprop(landed0 (near c) (snt0 m (near (near c))) ∗ open1 (far (near c)))
  rw [near_near, far_near]
  unfold landed0
  iintro ⟨H, Hx⟩
  isplitl [H]
  · iexists _
    isplitr
    rotate_left
    · iexact H
    · ipureintro
      exact (readAt_landed cM _ _ _ sM fd fs).trans hs
  iexact Hx

/-- The second half, sent, comes back to its sender. -/
theorem sent1 (fs : Buf (Elt F) ((part1 sM : Memref sig .tc .vmem S256x1024 .bf16).view.loc (c : Thread nD τ))) :
    (own c (part1 sM) fs : sProp 𝕄) ⊢ (Rd m).payload (cell c 3) 0 false := by
  rw [payload_cell]
  show _ ⊢ iprop(∃ f : Buf (Elt F) ((part1 sM).view.loc (c : Thread nD τ)), own c (part1 sM) f)
  iintro H; iexists fs; iexact H

/-- The second copy, landed, is the payload of the far partner's counter. -/
theorem lands1 (fs : Buf (Elt F) ((part1 sM : Memref sig .tc .vmem S256x1024 .bf16).view.loc (c : Thread nD τ)))
    (fd : Buf (Elt F) ((part1 cM : Memref sig .tc .vmem S256x1024 .bf16).view.loc (far c : Thread nD τ)))
    (hs : (sM : Memref sig .tc .vmem S2x256x1024 .bf16).view.readAt (Elt F) half1.toLoadRect fs = snt1 m c) :
    (own (far c) (part1 cM) ((part1 cM).view.write (Elt F) fd ((part1 sM).view.read (Elt F) fs) Finset.univ) : sProp 𝕄)
      ⊢ (Rd m).payload (cell (far c) 4) 0 false := by
  rw [payload_cell]
  show _ ⊢ landed1 (far c) (snt1 m (far (far c)))
  rw [far_far]
  unfold landed1
  iintro H
  iexists _
  isplitr
  rotate_left
  · iexact H
  · ipureintro
    exact (readAt_landed cM _ _ _ sM fd fs).trans hs

/-- The first exchange's copy, addressed to `n = near c`: the half read as `v` lands and reads back as `v`. -/
theorem send0 (n : Dev nD) (hn : n = near c) {hsc : (part0 cM : Memref sig (Dev.tc n : Thread nD τ).2.kind .vmem S256x1024 .bf16).view.ref.isScScratch = false}
    {hsrc : (part0 sM : Memref sig .tc .vmem S256x1024 .bf16).view.WordExact} {hdst : (part0 cM : Memref sig .tc .vmem S256x1024 .bf16).view.WordExact}
    {hsem : DmaTarget.Typed .vmem (.dma (el0 cc0_scratch8)) (.remote (Dev.tc n : Thread nD τ) (part0 cM : Memref sig .tc .vmem S256x1024 .bf16) (.dma (el0 cc0_scratch7)) hsc)}
    {α : Type} {Q : α → sProp 𝕄} {k : PUnit → Prog (TpuEff nD τ sig (Elt F) Λ₀ .tc) α} (W : Waits sig Unit) :
    iprop(invs m K c ∗ marks c
        ∗ (∃ fs : Buf (Elt F) ((part0 sM : Memref sig .tc .vmem S256x1024 .bf16).view.loc (c : Thread nD τ)),
            ⌜(sM : Memref sig .tc .vmem S2x256x1024 .bf16).view.readAt (Elt F) half0.toLoadRect fs = snt0 m c⌝ ∗ own c (part0 sM) fs)
        ∗ open0 (near c) ∗ open1 (third c) ∗ owes (c : Thread nD τ) (O₁ c) W
        ∗ dutyTok ER (cell c 1) 0 false ∗ dutyTok ER (cell (near c) 2) 0 false)
      ⊢ iprop(((cred (tallyAt (cell c 1) () N) ∗ owes (c : Thread nD τ) (O₂ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (part0 sM) (.remote (Dev.tc n : Thread nD τ) (part0 cM) (.dma (el0 cc0_scratch7)) hsc) (.dma (el0 cc0_scratch8)) hsrc hdst hsem) k) Q) := by
  subst hn
  unfold invs marks open0
  iintro ⟨⟨-, #I1, -, #I3, -, -, -, #In, #If⟩, ⟨-, -, #Rn, #Rf, #R1, #R2, #R3, #R4⟩, ⟨%fs, %hs, Hs⟩, ⟨⟨%fd, Hd⟩, -⟩, Hx, HO, Ht, Ht'⟩
  iapply (Rounds.wp_send_pointsTo_with 𝒱₀ ER (Rd m) (c : Thread nD τ) none (c' := (near c : Thread nD τ)) (κ₁ := K (c, 1)) (κ₂ := K (near c, 2))
    (r₁ := 0) (r₂ := 0) (d₁ := false) (d₂ := false) (fd := fd) (F := open1 (third c))
    (by rw [show ((c : Thread nD τ), SemLoc.dma (el0 cc0_scratch7)) = cell c 1 from rfl, duties_succ m c 1 (by decide)]; exact Finset.mem_singleton_self _)
    (by rw [show ((near c : Thread nD τ), SemLoc.dma (el0 cc0_scratch8)) = cell (near c) 2 from rfl, duties_succ m (near c) 2 (by decide)]; exact Finset.mem_singleton_self _)
    () () N rfl (amount_succ m c 1 (by decide) false) (amount_succ m (near c) 2 (by decide) false) (O₂ c) rfl (W := W)
    (sent0 m c fs) (lands0 m c fs fd hs)) $$ [Hs Hd Hx HO Ht Ht']
  isplitr; · iexact I1
  isplitr; · iexact In
  isplitl [Hs]; · iexact Hs
  isplitl [Hd Hx]
  · isplitl [Hd]; · iexact Hd
    iexact Hx
  isplitl [HO]; · iexact HO
  isplitl [Ht]; · iexact Ht
  isplitr; · iexact R1
  isplitl [Ht']; · iexact Ht'
  iexact Rn

/-- The second exchange's copy, addressed to `n = far c`: the half read as `v` lands and reads back as `v`. -/
theorem send1 (n : Dev nD) (hn : n = far c) {hsc : (part1 cM : Memref sig (Dev.tc n : Thread nD τ).2.kind .vmem S256x1024 .bf16).view.ref.isScScratch = false}
    {hsrc : (part1 sM : Memref sig .tc .vmem S256x1024 .bf16).view.WordExact} {hdst : (part1 cM : Memref sig .tc .vmem S256x1024 .bf16).view.WordExact}
    {hsem : DmaTarget.Typed .vmem (.dma (el1 cc0_scratch8)) (.remote (Dev.tc n : Thread nD τ) (part1 cM : Memref sig .tc .vmem S256x1024 .bf16) (.dma (el1 cc0_scratch7)) hsc)}
    {α : Type} {Q : α → sProp 𝕄} {k : PUnit → Prog (TpuEff nD τ sig (Elt F) Λ₀ .tc) α} (W : Waits sig Unit) :
    iprop(invs m K c ∗ marks c
        ∗ (∃ fs : Buf (Elt F) ((part1 sM : Memref sig .tc .vmem S256x1024 .bf16).view.loc (c : Thread nD τ)),
            ⌜(sM : Memref sig .tc .vmem S2x256x1024 .bf16).view.readAt (Elt F) half1.toLoadRect fs = snt1 m c⌝ ∗ own c (part1 sM) fs)
        ∗ open1 (far c) ∗ owes (c : Thread nD τ) (O₂ c) W
        ∗ dutyTok ER (cell c 3) 0 false ∗ dutyTok ER (cell (far c) 4) 0 false)
      ⊢ iprop(((cred (tallyAt (cell c 3) () N) ∗ owes (c : Thread nD τ) (0) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (part1 sM) (.remote (Dev.tc n : Thread nD τ) (part1 cM) (.dma (el1 cc0_scratch7)) hsc) (.dma (el1 cc0_scratch8)) hsrc hdst hsem) k) Q) := by
  subst hn
  unfold invs marks open1
  iintro ⟨⟨-, #I1, -, #I3, -, -, -, #In, #If⟩, ⟨-, -, #Rn, #Rf, #R1, #R2, #R3, #R4⟩, ⟨%fs, %hs, Hs⟩, ⟨⟨%fd, Hd⟩, -⟩, HO, Ht, Ht'⟩
  iapply (Rounds.wp_send_pointsTo 𝒱₀ ER (Rd m) (c : Thread nD τ) none (c' := (far c : Thread nD τ)) (κ₁ := K (c, 3)) (κ₂ := K (far c, 4))
    (r₁ := 0) (r₂ := 0) (d₁ := false) (d₂ := false) (fd := fd)
    (by rw [show ((c : Thread nD τ), SemLoc.dma (el1 cc0_scratch7)) = cell c 3 from rfl, duties_succ m c 3 (by decide)]; exact Finset.mem_singleton_self _)
    (by rw [show ((far c : Thread nD τ), SemLoc.dma (el1 cc0_scratch8)) = cell (far c) 4 from rfl, duties_succ m (far c) 4 (by decide)]; exact Finset.mem_singleton_self _)
    () () N rfl (amount_succ m c 3 (by decide) false) (amount_succ m (far c) 4 (by decide) false) 0 (zero_add _).symm (W := W)
    (sent1 m c fs) (lands1 m c fs fd hs)) $$ [Hs Hd HO Ht Ht']
  isplitr; · iexact I3
  isplitr; · iexact If
  isplitl [Hs]; · iexact Hs
  isplitl [Hd]; · iexact Hd
  isplitl [HO]; · iexact HO
  isplitl [Ht]; · iexact Ht
  isplitr; · iexact R3
  isplitl [Ht']; · iexact Ht'
  iexact Rf

/-- Every half carries the same credit. -/
theorem credit_s0 : (part0 sM : Memref sig .tc .vmem S256x1024 .bf16).view.dmaCredit = N := rfl
/-- The credit of every half is the same: of the first landing, -/
theorem credit_c0 : (part0 cM : Memref sig .tc .vmem S256x1024 .bf16).view.dmaCredit = N := rfl
/-- the second sending, -/
theorem credit_s1 : (part1 sM : Memref sig .tc .vmem S256x1024 .bf16).view.dmaCredit = N := rfl
/-- the second landing. -/
theorem credit_c1 : (part1 cM : Memref sig .tc .vmem S256x1024 .bf16).view.dmaCredit = N := rfl

/-- The wait for the first sending is allowed, -/
theorem mayWait_snd0 : (levAts L lv : sProp 𝕄) ⊢ MayWait (c : Thread nD τ) (shared 1) () (O₂ c) :=
  mayWait_low c (shared 1) (by rw [lv_of]; decide +kernel) _ (.inr (.inr (.inl rfl)))
/-- and for the second. -/
theorem mayWait_snd1 : (levAts L lv : sProp 𝕄) ⊢ MayWait (c : Thread nD τ) (shared 3) () 0 :=
  mayWait_low c (shared 3) (by rw [lv_of]; decide +kernel) _ (.inr (.inr (.inr rfl)))
/-- Owing nothing, a device may wait for anything. -/
theorem mayWait_none (sm : SemLoc sig) : (levAts L lv : sProp 𝕄) ⊢ MayWait (c : Thread nD τ) sm () 0 :=
  mayWait_of c sm 0 _ le_rfl fun g u hg => absurd hg (lt_irrefl 0)

/-- A wait on counter `k ≠ 0` for the whole of its one round. -/
theorem await (k : Fin 5) (hk : k ≠ 0) (sm : DmaSem sig) (hsm : shared k = .dma sm)
    {sp sp' : Space} {s s' : Shape} {e e' : EltTy} {src : Memref sig .tc sp' s' e'} {dst : Memref sig .tc sp s e}
    {hsrc : src.view.WordExact} {hdst : dst.view.WordExact} (hN : dst.view.dmaCredit = N)
    {α : Type} {Q : α → sProp 𝕄} {kk : PUnit → Prog (TpuEff nD τ sig (Elt F) Λ₀ .tc) α} (O : CellTallies nD τ sig Unit) (W : Waits sig Unit) :
    iprop(cellInv ER (Rd m) (K (c, k)) (cell c k) ∗ cred (tallyAt (cell c k) () N) ∗ owes (c : Thread nD τ) O W
        ∗ MayWait (c : Thread nD τ) (shared k) () O ∗ atPos ER (cell c k) 0 ∅ 0)
      ⊢ iprop(((owes (c : Thread nD τ) O (insert (shared k, ()) W) ∗ atPos ER (cell c k) (0 + 1) ∅ 0 ∗ pay m c k false)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  iintro ⟨#HI, Hc, HO, HM, Hat⟩ Hk
  rw [← hN]
  iapply (Rounds.wp_wait_rest_token 𝒱₀ ER (Rd m) (c : Thread nD τ) none (κ := K (c, k)) (sm := shared k)
      (fun KK => by rw [hsm]; exact wpE_waitDma2_eq 𝒱₀ (c : Thread nD τ) none Set.univ KK) (Set.mem_univ _) () (O := O) (W := W) (R := 0) (m := 0) (T := ∅)
      (by rw [Nat.zero_add, hN]; exact (expect_succ m c k hk).symm)) $$ [Hc HO HM Hat]
  · isplitr; · iexact HI
    isplitl [Hc]; · iexact Hc
    isplitl [HO]; · iexact HO
    isplitl [HM]; · iexact HM
    iexact Hat
  iintro ⟨HO, Hat, -, Hpay⟩
  ihave Hp := (Entails.of_eq (rest_succ m c k hk)) $$ Hpay
  iapply Hk
  isplitl [HO]; · iexact HO
  isplitl [Hat]; · iexact Hat
  iexact Hp

end Cert.KernelIdeal.Mesh

end
-- ==== Proof.Run.lean ====
/-
One device's run of the kernel, from what the launch hands it to what it leaves.
-/
module

public import proofs.«01_k».proof.Proof.Steps

@[expose] public section

noncomputable section

namespace Cert.KernelIdeal.Mesh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)
variable (K : Dev nD × Fin 5 → ℕ) (c : Dev nD)

/-- A buffer of device `c`, whole, at contents `f`. -/
abbrev held (b : Ref sig .tc) (f : Buf (Elt F) ((Memref.whole b).view.loc (c : Thread nD τ))) : sProp 𝕄 :=
  (Memref.whole b).view.loc (c : Thread nD τ) ↦{fullShare} f

/-- The four counters of the copies of keys and values, at rest. -/
def rest4 : sProp 𝕄 :=
  iprop(semVal ((c : Thread nD τ), SemLoc.dma (el0 cc0_scratch5)) 0 ∗ semVal ((c : Thread nD τ), SemLoc.dma (el1 cc0_scratch5)) 0
    ∗ semVal ((c : Thread nD τ), SemLoc.dma (el0 cc0_scratch6)) 0 ∗ semVal ((c : Thread nD τ), SemLoc.dma (el1 cc0_scratch6)) 0)

/-- The halves of the key and value buffers, at any contents. -/
def slots : sProp 𝕄 :=
  iprop((∃ f, own c (slot0 kM) f) ∗ (∃ f, own c (slot1 kM) f) ∗ (∃ f, own c (slot0 vM) f) ∗ (∃ f, own c (slot1 vM) f))

/-- What stays as it was: the staged inputs and the keys and values. -/
def inputs : sProp 𝕄 :=
  iprop(held c cc0_stg0_0 (xAt m c) ∗ held c cc0_stg1_0 (wqAt m c) ∗ held c cc0_stg2_0 (woAt m c)
    ∗ held c main_arg2 (m ((c : Thread nD τ).loc main_arg2)) ∗ held c main_arg3 (m ((c : Thread nD τ).loc main_arg3)))

/-- The five shared counters at rest. -/
def rest5 : sProp 𝕄 :=
  iprop(semVal (cell c 0) 0 ∗ semVal (cell c 1) 0 ∗ semVal (cell c 2) 0 ∗ semVal (cell c 3) 0 ∗ semVal (cell c 4) 0)

/-- The halves of the two exchange buffers, at any contents. -/
def halves : sProp 𝕄 :=
  iprop((∃ f, own c (part0 sM) f) ∗ (∃ f, own c (part1 sM) f) ∗ (∃ f, own c (part0 cM) f) ∗ (∃ f, own c (part1 cM) f))

/-- What the run leaves: nothing owed, every counter at rest, the inputs as they were, the result in its buffer. -/
def left : sProp 𝕄 :=
  iprop((∃ W', owes (c : Thread nD τ) 0 W') ∗ rest4 c ∗ rest5 c ∗ inputs m c ∗ slots c ∗ held c cc0_stg3_0 (outAt m c)
    ∗ (∃ f, held c cc0_scratch0 f) ∗ halves c)

set_option maxHeartbeats 400000 in
set_option sl_exec.squeezeSlice true in
/-- A device's body, from its start to its end. -/
theorem run (W : Waits sig Unit) (o0 : Buf (Elt F) ((Memref.whole cc0_stg3_0).view.loc (c : Thread nD τ)))
    (a0 : Buf (Elt F) ((Memref.whole cc0_scratch0).view.loc (c : Thread nD τ)))
    (Kt : PUnit → sProp 𝕄) :
    iprop(ghost m K c ∗ creds c ∗ levAts L lv ∗ owes (c : Thread nD τ) (O₀ c) W ∗ rest4 c ∗ inputs m c ∗ slots c
        ∗ held c cc0_stg3_0 o0 ∗ held c cc0_scratch0 a0 ∗ halves c
        ∗ (left m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole main_arg2) (Memref.isWhole_whole _)
            (Memref.whole main_arg3) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8) Kt := by
  have hk0 : (kM : Memref sig .tc .vmem S2x4096x128 .f32).view.setOn slab0.set ≤ (slot0 kM).view.set := le_of_eq (set_squeezed kM slab0 _ _).symm
  have hk1 : (kM : Memref sig .tc .vmem S2x4096x128 .f32).view.setOn slab1.set ≤ (slot1 kM).view.set := le_of_eq (set_squeezed kM slab1 _ _).symm
  have hv0 : (vM : Memref sig .tc .vmem S2x4096x128 .f32).view.setOn slab0.set ≤ (slot0 vM).view.set := le_of_eq (set_squeezed vM slab0 _ _).symm
  have hv1 : (vM : Memref sig .tc .vmem S2x4096x128 .f32).view.setOn slab1.set ≤ (slot1 vM).view.set := le_of_eq (set_squeezed vM slab1 _ _).symm
  have hs0 : (sM : Memref sig .tc .vmem S2x256x1024 .bf16).view.setOn half0.set ≤ (part0 sM).view.set := le_of_eq (set_squeezed sM half0 _ _).symm
  have hs1 : (sM : Memref sig .tc .vmem S2x256x1024 .bf16).view.setOn half1.set ≤ (part1 sM).view.set := le_of_eq (set_squeezed sM half1 _ _).symm
  have hc0 : (cM : Memref sig .tc .vmem S2x256x1024 .bf16).view.setOn half0.set ≤ (part0 cM).view.set := le_of_eq (set_squeezed cM half0 _ _).symm
  have hc1 : (cM : Memref sig .tc .vmem S2x256x1024 .bf16).view.setOn half1.set ≤ (part1 cM).view.set := le_of_eq (set_squeezed cM half1 _ _).symm
  have hm4 : (levAts L lv : sProp 𝕄) ⊢ MayWait (c : Thread nD τ) (.dma (el0 cc0_scratch5)) () (O₁ c) := mayWait_low c _ (by rw [lv_of]; decide +kernel) _ (.inr (.inl rfl))
  have hm5 : (levAts L lv : sProp 𝕄) ⊢ MayWait (c : Thread nD τ) (.dma (el1 cc0_scratch5)) () (O₁ c) := mayWait_low c _ (by rw [lv_of]; decide +kernel) _ (.inr (.inl rfl))
  have hm6 : (levAts L lv : sProp 𝕄) ⊢ MayWait (c : Thread nD τ) (.dma (el0 cc0_scratch6)) () (O₁ c) := mayWait_low c _ (by rw [lv_of]; decide +kernel) _ (.inr (.inl rfl))
  have hm7 : (levAts L lv : sProp 𝕄) ⊢ MayWait (c : Thread nD τ) (.dma (el1 cc0_scratch6)) () (O₁ c) := mayWait_low c _ (by rw [lv_of]; decide +kernel) _ (.inr (.inl rfl))
  rw [cc0_body_eq_skeleton]; unfold cc0_body_skel
  rw [k0_part17_eq_skeleton]; unfold k0_part17_skel
  rw [k0_part1_eq_skeleton]; unfold k0_part1_skel
  simp only [semSignalWord, semWaitWord, Prog.lift, Prog.bind_op, Prog.bind_ret, Prog.pure_eq_ret, wp_deviceId]
  unfold ghost places payToks creds rest4 inputs slots halves
  iintro ⟨⟨#HI, ⟨A0, A1, A2, A3, A4⟩, #HM, T0, T0', T1, T2, T3, T4⟩, ⟨C0, C2, C4⟩, #Hlev, HO, ⟨S4, S5, S6, S7⟩, ⟨Hx, Hq, Hw, HK, HV⟩,
    ⟨⟨%k0, Hk0⟩, ⟨%k1, Hk1⟩, ⟨%v0, Hv0⟩, ⟨%v1, Hv1⟩⟩, Ho, Ha, ⟨⟨%s0, Hs0⟩, ⟨%s1, Hs1⟩, Hc0, Hc1⟩, Hk⟩
  iapply (meet m K c _ _ _ (signal_order c) _ _ _ (by decide) (by decide) (by decide) W) $$ [T0 T0' Hc0 Hc1 C0 A0 HO]
  · isplitr; · iexact HI
    isplitr; · iexact HM
    isplitr; · iexact Hlev
    isplitl [HO]; · iexact HO
    isplitl [T0]; · iexact T0
    isplitl [T0']; · iexact T0'
    isplitl [Hc0]; · iexact Hc0
    isplitl [Hc1]; · iexact Hc1
    isplitl [C0]; · iexact C0
    iexact A0
  iintro ⟨HO, A0, Hn, Ht⟩
  sl_exec
  have e61 : run.sl.v61 m c = kIn m c 0 inb_S1x4096x8x128_S1x4096x1x128_0_0_0_0 := readAt_writes_squeezed kM slab0 _ _ _ _ _
  have e68 : run.sl.v68 m c = vIn m c 0 inb_S1x4096x8x128_S1x4096x1x128_0_0_0_0 := readAt_writes_squeezed vM slab0 _ _ _ _ _
  have e109 : run.sl.v109 m c = kIn m c 1 inb_S1x4096x8x128_S1x4096x1x128_0_0_1_0 := readAt_writes_squeezed kM slab1 _ _ _ _ _
  have e116 : run.sl.v116 m c = vIn m c 1 inb_S1x4096x8x128_S1x4096x1x128_0_0_1_0 := readAt_writes_squeezed vM slab1 _ _ _ _ _
  have e157 : run.sl.v157 m c = kIn m c 2 inb_S1x4096x8x128_S1x4096x1x128_0_0_2_0 := readAt_writes_squeezed kM slab0 _ _ _ _ _
  have e164 : run.sl.v164 m c = vIn m c 2 inb_S1x4096x8x128_S1x4096x1x128_0_0_2_0 := readAt_writes_squeezed vM slab0 _ _ _ _ _
  have e205 : run.sl.v205 m c = kIn m c 3 inb_S1x4096x8x128_S1x4096x1x128_0_0_3_0 := readAt_writes_squeezed kM slab1 _ _ _ _ _
  have e212 : run.sl.v212 m c = vIn m c 3 inb_S1x4096x8x128_S1x4096x1x128_0_0_3_0 := readAt_writes_squeezed vM slab1 _ _ _ _ _
  have e253 : run.sl.v253 m c = kIn m c 4 inb_S1x4096x8x128_S1x4096x1x128_0_0_4_0 := readAt_writes_squeezed kM slab0 _ _ _ _ _
  have e260 : run.sl.v260 m c = vIn m c 4 inb_S1x4096x8x128_S1x4096x1x128_0_0_4_0 := readAt_writes_squeezed vM slab0 _ _ _ _ _
  have e301 : run.sl.v301 m c = kIn m c 5 inb_S1x4096x8x128_S1x4096x1x128_0_0_5_0 := readAt_writes_squeezed kM slab1 _ _ _ _ _
  have e308 : run.sl.v308 m c = vIn m c 5 inb_S1x4096x8x128_S1x4096x1x128_0_0_5_0 := readAt_writes_squeezed vM slab1 _ _ _ _ _
  have e349 : run.sl.v349 m c = kIn m c 6 inb_S1x4096x8x128_S1x4096x1x128_0_0_6_0 := readAt_writes_squeezed kM slab0 _ _ _ _ _
  have e356 : run.sl.v356 m c = vIn m c 6 inb_S1x4096x8x128_S1x4096x1x128_0_0_6_0 := readAt_writes_squeezed vM slab0 _ _ _ _ _
  have e385 : run.sl.v385 m c = kIn m c 7 inb_S1x4096x8x128_S1x4096x1x128_0_0_7_0 := readAt_writes_squeezed kM slab1 _ _ _ _ _
  have e392 : run.sl.v392 m c = vIn m c 7 inb_S1x4096x8x128_S1x4096x1x128_0_0_7_0 := readAt_writes_squeezed vM slab1 _ _ _ _ _
  have eq : run.sl.r m c = qAt m c := by unfold run.sl.r qAt; with_reducible rfl
  have eA : run.sl.Ha_8 m c = attnPieces m c := by
    unfold run.sl.Ha_8 run.sl.v175 run.sl.r_2 run.sl.r_3 run.sl.r_4; rw [e157, e164, e61, e68, e109, e116, e205, e212, e253, e260, e301, e308, e349, e356, e385, e392]
    unfold run.sl.r_1 run.sl.r_5
    rw [eq]
    unfold attnPieces head0 head1 head2 head3 head4 head5 head6 head7 k0_pay7
    with_reducible rfl
  have eP : run.sl.v413 m c = partAt m c := by
    unfold run.sl.v413 run.sl.Ho_1
    refine (load_stored _ _).trans ?_
    unfold partAt attnAt run.sl.v407
    rw [eA]
  have eS : (sM : Memref sig .tc .vmem S2x256x1024 .bf16).view.readAt (Elt F) half0.toLoadRect (run.sl.Hs0_w1 m c s0) = k0_pay18 (run.sl.v413 m c) := by
    unfold run.sl.Hs0_w1
    exact View.read_write_univ _ _
  iapply (send0 m K c _ rfl _) $$ [Hs0 Hn Ht HO T1 T2]
  · isplitr; · iexact HI
    isplitr; · iexact HM
    isplitl [Hs0]
    · iexists _
      isplitr
      rotate_left
      · iexact Hs0
      · ipureintro
        rw [eS, eP]; unfold snt0; with_reducible rfl
    isplitl [Hn]; · iexact Hn
    isplitl [Ht]; · iexact Ht
    isplitl [HO]; · iexact HO
    isplitl [T1]; · iexact T1
    iexact T2
  iintro ⟨C1, HO⟩
  simp only [Prog.lift, Prog.bind_op, Prog.bind_ret, Prog.pure_eq_ret]
  iapply (await m K c 1 (by decide) (el0 cc0_scratch7) rfl credit_s0 (O₂ c) _) $$ [C1 HO A1]
  · isplitr; · unfold invs; icases HI with ⟨-, #I1, -⟩; iexact I1
    isplitl [C1]; · iexact C1
    isplitl [HO]; · iexact HO
    isplitr; · iapply (mayWait_snd0 c); iexact Hlev
    iexact A1
  iintro ⟨HO, A1, Hs0⟩
  unfold pay
  icases Hs0 with ⟨%s0', Hs0⟩
  rw [k0_part16_eq_skeleton]; unfold k0_part16_skel
  simp only [Prog.lift, Prog.bind_op, Prog.bind_ret, Prog.pure_eq_ret]
  rw [wp_ret, fupd_wp_eq]
  iapply (await m K c 2 (by decide) (el0 cc0_scratch8) rfl credit_c0 (O₂ c) _) $$ [C2 HO A2]
  · isplitr; · unfold invs; icases HI with ⟨-, -, #I1, -⟩; iexact I1
    isplitl [C2]; · iexact C2
    isplitl [HO]; · iexact HO
    isplitr; · iapply (mayWait_arr c); iexact Hlev
    iexact A2
  iintro ⟨HO, A2, Hc0⟩
  unfold pay landed0
  icases Hc0 with ⟨⟨%c0, %hc0', Hc0⟩, Hopen⟩
  have eo : (outM : Memref sig .tc .vmem S1x256x1024 .f32).view.writes (Elt F) o0 (run.sl.Ho_1 m c) = partAt m c := by
    unfold run.sl.Ho_1 partAt attnAt
    refine (stored c o0 _ _).trans ?_
    unfold run.sl.v407
    rw [eA]
  ihave Ho := (show (held c cc0_stg3_0 ((outM : Memref sig .tc .vmem S1x256x1024 .f32).view.writes (Elt F) o0 (run.sl.Ho_1 m c)) : sProp 𝕄)
    ⊢ held c cc0_stg3_0 (partAt m c) from Entails.of_eq (by rw [eo])) $$ Ho
  sl_exec
  have e1 : run.sl.x m c = sum1 m c := by
    unfold run.sl.x run.sl.Ho_1_1 sum1
    refine (load_stored _ _).trans ?_
    exact congrArg (fun z => k0_pay19 z (snt0 m (near c))) (load_whole c (partAt m c))
  have eS1 : (sM : Memref sig .tc .vmem S2x256x1024 .bf16).view.readAt (Elt F) half1.toLoadRect (run.sl.Hs1_w1 m c s1) = snt1 m c := by
    unfold run.sl.Hs1_w1 snt1
    rw [← e1]
    exact View.read_write_univ _ _
  have eo1 : (outM : Memref sig .tc .vmem S1x256x1024 .f32).view.writes (Elt F) (partAt m c) (run.sl.Ho_1_1 m c) = sum1 m c := by
    unfold run.sl.Ho_1_1 sum1
    refine (stored c (partAt m c) _ _).trans ?_
    exact congrArg (fun z => k0_pay19 z (snt0 m (near c))) (load_whole c (partAt m c))
  ihave Ho := (show (held c cc0_stg3_0 ((outM : Memref sig .tc .vmem S1x256x1024 .f32).view.writes (Elt F) (partAt m c) (run.sl.Ho_1_1 m c)) : sProp 𝕄)
    ⊢ held c cc0_stg3_0 (sum1 m c) from Entails.of_eq (by rw [eo1])) $$ Ho
  iapply (send1 m K c _ rfl _) $$ [Hs1 Hopen HO T3 T4]
  · isplitr; · iexact HI
    isplitr; · iexact HM
    isplitl [Hs1]
    · iexists _
      isplitr
      rotate_left
      · iexact Hs1
      · ipureintro; exact eS1
    isplitl [Hopen]; · iexact Hopen
    isplitl [HO]; · iexact HO
    isplitl [T3]; · iexact T3
    iexact T4
  iintro ⟨C3, HO⟩
  iapply (await m K c 3 (by decide) (el1 cc0_scratch7) rfl credit_s1 0 _) $$ [C3 HO A3]
  · isplitr; · unfold invs; icases HI with ⟨-, -, -, #I1, -⟩; iexact I1
    isplitl [C3]; · iexact C3
    isplitl [HO]; · iexact HO
    isplitr; · iapply (mayWait_none c); iexact Hlev
    iexact A3
  iintro ⟨HO, A3, Hs1⟩
  iapply (await m K c 4 (by decide) (el1 cc0_scratch8) rfl credit_c1 0 _) $$ [C4 HO A4]
  · isplitr; · unfold invs; icases HI with ⟨-, -, -, -, #I1, -⟩; iexact I1
    isplitl [C4]; · iexact C4
    isplitl [HO]; · iexact HO
    isplitr; · iapply (mayWait_none c); iexact Hlev
    iexact A4
  iintro ⟨HO, A4, Hc1⟩
  unfold pay landed1
  icases Hs1 with ⟨%s1', Hs1⟩
  icases Hc1 with ⟨%c1, %hc1', Hc1⟩
  sl_exec
  have eo2 : (outM : Memref sig .tc .vmem S1x256x1024 .f32).view.writes (Elt F) (sum1 m c)
      [⟨allX, k0_pay1 (k0_pay21 (outM.view.readAt (Elt F) allX.toLoadRect (sum1 m c))) (snt1 m (far c))⟩] = outAt m c := by
    unfold outAt
    refine (stored c (sum1 m c) _ _).trans ?_
    exact congrArg (fun z => k0_pay1 (k0_pay21 z) (snt1 m (far c))) (load_whole c (sum1 m c))
  ihave Ho := (show (held c cc0_stg3_0 ((outM : Memref sig .tc .vmem S1x256x1024 .f32).view.writes (Elt F) (sum1 m c)
      [⟨allX, k0_pay1 (k0_pay21 (outM.view.readAt (Elt F) allX.toLoadRect (sum1 m c))) (snt1 m (far c))⟩]) : sProp 𝕄)
    ⊢ held c cc0_stg3_0 (outAt m c) from Entails.of_eq (by rw [eo2])) $$ Ho
  unfold invs
  icases HI with ⟨#I0, #I1, #I2, #I3, #I4, -⟩
  imod (Rounds.cell_close ER (Rd m) (Set.mem_univ (K (c, 0))) (fun h => h) (R := 0 + 1) (duties_later m (cell c 0))) $$ [A0] with Z0
  · isplitr; · iexact I0
    iexact A0
  imod (Rounds.cell_close ER (Rd m) (Set.mem_univ (K (c, 1))) (fun h => h) (R := 0 + 1) (duties_later m (cell c 1))) $$ [A1] with Z1
  · isplitr; · iexact I1
    iexact A1
  imod (Rounds.cell_close ER (Rd m) (Set.mem_univ (K (c, 2))) (fun h => h) (R := 0 + 1) (duties_later m (cell c 2))) $$ [A2] with Z2
  · isplitr; · iexact I2
    iexact A2
  imod (Rounds.cell_close ER (Rd m) (Set.mem_univ (K (c, 3))) (fun h => h) (R := 0 + 1) (duties_later m (cell c 3))) $$ [A3] with Z3
  · isplitr; · iexact I3
    iexact A3
  imod (Rounds.cell_close ER (Rd m) (Set.mem_univ (K (c, 4))) (fun h => h) (R := 0 + 1) (duties_later m (cell c 4))) $$ [A4] with Z4
  · isplitr; · iexact I4
    iexact A4
  rw [wp_ret]; imodintro
  iapply Hk
  unfold left rest4 rest5 inputs slots halves
  isplitl [HO]; · iexists _; iexact HO
  isplitl [S4 S5 S6 S7]
  · isplitl [S4]; · iexact S4
    isplitl [S5]; · iexact S5
    isplitl [S6]; · iexact S6
    iexact S7
  isplitl [Z0 Z1 Z2 Z3 Z4]
  · isplitl [Z0]; · iexact Z0
    isplitl [Z1]; · iexact Z1
    isplitl [Z2]; · iexact Z2
    isplitl [Z3]; · iexact Z3
    iexact Z4
  isplitl [Hx Hq Hw HK HV]
  · isplitl [Hx]; · iexact Hx
    isplitl [Hq]; · iexact Hq
    isplitl [Hw]; · iexact Hw
    isplitl [HK]; · iexact HK
    iexact HV
  isplitl [Hk0 Hk1 Hv0 Hv1]
  · isplitl [Hk0]; · iexists _; iexact Hk0
    isplitl [Hk1]; · iexists _; iexact Hk1
    isplitl [Hv0]; · iexists _; iexact Hv0
    iexists _; iexact Hv1
  isplitl [Ho]; · iexact Ho
  isplitl [Ha]; · iexists _; iexact Ha
  isplitl [Hs0]; · iexists _; iexact Hs0
  isplitl [Hs1]; · iexists _; iexact Hs1
  isplitl [Hc0]; · iexists _; iexact Hc0
  iexists _; iexact Hc1

end Cert.KernelIdeal.Mesh

end
-- ==== Proof.Deal.lean ====
/-
The launch deals the hand-over's ghost state: the five shared counters of every device become invariants, and every
device receives its own positions, the tokens of the duties it pays, and the credit it waits for.
-/
module

public import proofs.«01_k».proof.Proof.Run

@[expose] public section

noncomputable section

namespace Cert.KernelIdeal.Mesh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## The shared counters and the duties, listed -/

/-- A device and one of its shared counters name the counter. -/
abbrev cellAt (p : Dev nD × Fin 5) : GSem nD τ sig := cell p.1 p.2

/-- Two of them are one only where device and number agree. -/
theorem cellAt_injective : Function.Injective cellAt := by
  rintro ⟨c, k⟩ ⟨d, j⟩ h
  have hc : c = d := congrArg (fun g : GSem nD τ sig => g.1.1) h
  have hk : k = j := shared_injective (congrArg Prod.snd h)
  rw [hc, hk]

/-- The set of the shared counters. -/
def cellsOf : Finset (GSem nD τ sig) := Finset.univ.map ⟨cellAt, cellAt_injective⟩

/-- The six duties on a device's own counters: the two of its barrier, then one on each other counter. -/
abbrev dutyNo : Fin 6 → Fin 5 × Bool := fun
  | 0 => (0, false) | 1 => (0, true) | 2 => (1, false) | 3 => (2, false) | 4 => (3, false) | 5 => (4, false)

/-- The six are distinct. -/
theorem dutyNo_injective : Function.Injective dutyNo := by decide

/-- A device's duty, by its number. -/
abbrev dutyAt (p : Dev nD × Fin 6) : GSem nD τ sig × ℕ × Bool := (cell p.1 (dutyNo p.2).1, 0, (dutyNo p.2).2)

/-- Duties of two devices or two numbers are two duties. -/
theorem dutyAt_injective : Function.Injective dutyAt := by
  rintro ⟨c, k⟩ ⟨d, j⟩ h
  have h1 : ((c, (dutyNo k).1) : Dev nD × Fin 5) = (d, (dutyNo j).1) := cellAt_injective (congrArg Prod.fst h)
  have hk : k = j := dutyNo_injective (Prod.ext (congrArg Prod.snd h1) (congrArg (fun x : GSem nD τ sig × ℕ × Bool => x.2.2) h))
  have hc : c = d := congrArg Prod.fst h1
  rw [hc, hk]

/-- The set of all duties. -/
def dutiesOf : Finset (GSem nD τ sig × ℕ × Bool) := Finset.univ.map ⟨dutyAt, dutyAt_injective⟩

/-- A separating product over five, written out; -/
theorem sum5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
/-- and over six. -/
theorem sum6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The tokens of the duties on device `c`'s own counters. -/
def ownToks (c : Dev nD) : sProp 𝕄 :=
  iprop(dutyTok ER (cell c 0) 0 false ∗ dutyTok ER (cell c 0) 0 true ∗ dutyTok ER (cell c 1) 0 false
    ∗ dutyTok ER (cell c 2) 0 false ∗ dutyTok ER (cell c 3) 0 false ∗ dutyTok ER (cell c 4) 0 false)

/-- What the minted state gives device `c`. -/
def minted (c : Dev nD) : sProp 𝕄 :=
  iprop((bigSep Finset.univ fun k : Fin 5 => roundState ER (Rd m) (cell c k) 0)
    ∗ (bigSep Finset.univ fun k : Fin 5 => atPos ER (cell c k) 0 ∅ 0)
    ∗ (bigSep Finset.univ fun k : Fin 5 => reached ER (cell c k) 0) ∗ ownToks c)

/-- What device `c` starts from once the counters are shared. -/
def dealt (c : Dev nD) : sProp 𝕄 := iprop(∃ K, ghost m K c)

/-- From the protocol's first state, everything each device is to be given. -/
theorem mint : BI.own (ER (initOf cellsOf dutiesOf)) ⊢ (|==> bigSep Finset.univ (minted m) : sProp 𝕄) := by
  have hc (Φ : GSem nD τ sig → sProp 𝕄) : bigSep cellsOf Φ = bigSep Finset.univ fun c : Dev nD => bigSep Finset.univ fun k : Fin 5 => Φ (cell c k) := by
    unfold cellsOf; rw [bigSep_map, bigSep_univ_prod]; rfl
  have ht : bigSep dutiesOf (fun x => (dutyTok ER x.1 x.2.1 x.2.2 : sProp 𝕄)) = bigSep Finset.univ fun c : Dev nD => ownToks c := by
    unfold dutiesOf; rw [bigSep_map, bigSep_univ_prod]
    exact bigSep_congr fun c _ => by unfold ownToks; rw [sum6]; rfl
  iintro H
  imod (Rounds.fund ER (Rd m) cellsOf dutiesOf) $$ H with ⟨Hs, Hr, Ha, Ht⟩
  imodintro
  ihave Hs := (Entails.of_eq (hc fun g => roundState ER (Rd m) g 0)) $$ Hs
  ihave Ha := (Entails.of_eq (hc fun g => atPos ER g 0 ∅ 0)) $$ Ha
  ihave Hr := (Entails.of_eq (hc fun g => reached ER g 0)) $$ Hr
  ihave Ht := (Entails.of_eq ht) $$ Ht
  unfold minted; simp only [bigSep_sep']
  isplitl [Hs]; · iexact Hs
  isplitl [Ha]; · iexact Ha
  isplitl [Hr]; · iexact Hr
  iexact Ht

/-! ## The counters of one device at launch -/

/-- The kernel's own counters: those of the key and value copies, then those of the exchanges. -/
abbrev osem : Fin 8 → SemLoc sig := fun
  | 0 => .dma (el0 cc0_scratch5) | 1 => .dma (el1 cc0_scratch5) | 2 => .dma (el0 cc0_scratch6) | 3 => .dma (el1 cc0_scratch6)
  | 4 => shared 1 | 5 => shared 3 | 6 => shared 2 | 7 => shared 4

/-- The eight counters of a device's copies are its own. -/
theorem ownSemFacts : Pipeline.OwnSemFacts cfg0.spec osem := by decide

/-- Those counters, each at zero. -/
abbrev ownSems (c : Dev nD) : sProp 𝕄 := Pipeline.ownSems0 (Ix := Unit) (Name := ℕ) (U := UU) (Lvl := ℕ) (Val := Elt F) (τ := τ) osem c

/-- They are these, written out. -/
theorem ownSems_eq (c : Dev nD) : (ownSems c : sProp 𝕄)
    = iprop(semVal ((c : Thread nD τ), SemLoc.dma (el0 cc0_scratch5)) 0 ∗ semVal ((c : Thread nD τ), SemLoc.dma (el1 cc0_scratch5)) 0
      ∗ semVal ((c : Thread nD τ), SemLoc.dma (el0 cc0_scratch6)) 0 ∗ semVal ((c : Thread nD τ), SemLoc.dma (el1 cc0_scratch6)) 0
      ∗ semVal (cell c 1) 0 ∗ semVal (cell c 3) 0 ∗ semVal (cell c 2) 0 ∗ semVal (cell c 4) 0) := by
  unfold ownSems
  rw [Pipeline.ownSems0_eq_of_list c osem [0, 1, 2, 3, 4, 5, 6, 7] (by decide) (by decide)]; rfl

/-- The barrier counter is the one the launch does not scope. -/
theorem barrier_eq (c : Dev nD) : (unscopedSems0 c : sProp 𝕄) = semVal (cell c 0) 0 := by
  unfold unscopedSems0; rw [bigSep_eq_bigSepL_of_eq [SemLoc.reg barS] (by decide) (by decide)]; rfl

/-- A device's counters at launch: four it keeps, five it shares. -/
theorem sems_split (c : Dev nD) : iprop(ownSems (F := F) c ∗ unscopedSems0 c) ⊢ iprop(rest4 c ∗ rest5 c) := by
  rw [ownSems_eq, barrier_eq]; unfold rest4 rest5
  iintro ⟨⟨A, B, C, D, H1, H3, H2, H4⟩, H0⟩
  isplitl [A B C D]
  · isplitl [A]; · iexact A
    isplitl [B]; · iexact B
    isplitl [C]; · iexact C
    iexact D
  isplitl [H0]; · iexact H0
  isplitl [H1]; · iexact H1
  isplitl [H2]; · iexact H2
  isplitl [H3]; · iexact H3
  iexact H4

/-- And back. -/
theorem sems_join (c : Dev nD) : iprop(rest4 (F := F) c ∗ rest5 c) ⊢ iprop(unscopedSems0 c ∗ ownSems c) := by
  rw [ownSems_eq, barrier_eq]; unfold rest4 rest5
  iintro ⟨⟨A, B, C, D⟩, H0, H1, H2, H3, H4⟩
  isplitl [H0]; · iexact H0
  isplitl [A]; · iexact A
  isplitl [B]; · iexact B
  isplitl [C]; · iexact C
  isplitl [D]; · iexact D
  isplitl [H1]; · iexact H1
  isplitl [H3]; · iexact H3
  isplitl [H2]; · iexact H2
  iexact H4

/-- The counters device `c` shares become invariants. -/
theorem share_cells (c : Dev nD) :
    iprop(rest5 c ∗ bigSep Finset.univ fun k : Fin 5 => roundState ER (Rd m) (cell c k) 0)
      ⊢ (|={Set.univ}=> bigSep Finset.univ fun k : Fin 5 => iprop(∃ κ : ℕ, cellInv ER (Rd m) κ (cell c k)) : sProp 𝕄) := by
  have h : (rest5 c : sProp 𝕄) = bigSep Finset.univ fun k : Fin 5 => semVal (cell c k) 0 := by rw [sum5]; rfl
  rw [h, ← bigSep_sep']
  exact (bigSep_mono fun k _ => (Rounds.body_intro ER (Rd m) (cell c k)).trans inv_alloc).trans (bigSep_fupd _ _)

/-! ## Dealing -/

/-- Every shared counter's invariant and mark. -/
def board (K : Dev nD × Fin 5 → ℕ) : sProp 𝕄 :=
  iprop((bigSep Finset.univ fun p : Dev nD × Fin 5 => cellInv ER (Rd m) (K p) (cellAt p))
    ∗ bigSep Finset.univ fun p : Dev nD × Fin 5 => reached ER (cellAt p) 0)

/-- What all devices know may be copied. -/
instance board_persistent (K : Dev nD × Fin 5 → ℕ) : BI.Persistent (board m K) := by unfold board; infer_instance

/-- It contains the invariant of every counter, -/
theorem board_inv (K : Dev nD × Fin 5 → ℕ) (c : Dev nD) (k : Fin 5) : board m K ⊢ cellInv ER (Rd m) (K (c, k)) (cell c k) := by
  unfold board
  exact sep_elim_left.trans (bigSep_elim (Finset.mem_univ ((c, k) : Dev nD × Fin 5)))
/-- and that every counter has reached its round 0. -/
theorem board_mark (K : Dev nD × Fin 5 → ℕ) (c : Dev nD) (k : Fin 5) : board m K ⊢ reached ER (cell c k) 0 := by
  unfold board
  exact sep_elim_right.trans (bigSep_elim (Finset.mem_univ ((c, k) : Dev nD × Fin 5)))

/-- The board, a device's places and its tokens are what it starts from. -/
theorem deal_one (K : Dev nD × Fin 5 → ℕ) (c : Dev nD) :
    iprop(board m K ∗ (bigSep Finset.univ fun k : Fin 5 => atPos ER (cell c k) 0 ∅ 0) ∗ payToks c) ⊢ dealt m c := by
  unfold dealt ghost invs marks
  rw [sum5]
  iintro ⟨#H, Ha, Ht⟩
  iexists K
  isplitr
  · isplitr; · iapply (board_inv m K c 0); iexact H
    isplitr; · iapply (board_inv m K c 1); iexact H
    isplitr; · iapply (board_inv m K c 2); iexact H
    isplitr; · iapply (board_inv m K c 3); iexact H
    isplitr; · iapply (board_inv m K c 4); iexact H
    isplitr; · iapply (board_inv m K (near c) 0); iexact H
    isplitr; · iapply (board_inv m K (third c) 0); iexact H
    isplitr; · iapply (board_inv m K (near c) 2); iexact H
    iapply (board_inv m K (far c) 4); iexact H
  isplitl [Ha]; · unfold places; iexact Ha
  isplitr
  · isplitr; · iapply (board_mark m K (near c) 0); iexact H
    isplitr; · iapply (board_mark m K (third c) 0); iexact H
    isplitr; · iapply (board_mark m K (near c) 2); iexact H
    isplitr; · iapply (board_mark m K (far c) 4); iexact H
    isplitr; · iapply (board_mark m K c 1); iexact H
    isplitr; · iapply (board_mark m K c 2); iexact H
    isplitr; · iapply (board_mark m K c 3); iexact H
    iapply (board_mark m K c 4); iexact H
  iexact Ht

/-- The three exchanges of tokens, each its own inverse. -/
def nearE : Dev nD ≃ Dev nD := ⟨near, near, near_near, near_near⟩
/-- The far partner as a bijection of the devices; -/
def farE : Dev nD ≃ Dev nD := ⟨far, far, far_far, far_far⟩
/-- and the device across. -/
def thirdE : Dev nD ≃ Dev nD := ⟨third, third, third_third, third_third⟩

/-- Every token goes to the device that pays the duty. -/
theorem hand_round : (bigSep Finset.univ fun c : Dev nD => (ownToks c : sProp 𝕄)) ⊢ bigSep Finset.univ fun c : Dev nD => payToks c := by
  unfold ownToks payToks
  simp only [bigSep_sep']
  rw [bigSep_univ_equiv nearE (fun c : Dev nD => (dutyTok ER (cell c 0) 0 false : sProp 𝕄)),
    bigSep_univ_equiv thirdE (fun c : Dev nD => (dutyTok ER (cell c 0) 0 true : sProp 𝕄)),
    bigSep_univ_equiv nearE (fun c : Dev nD => (dutyTok ER (cell c 2) 0 false : sProp 𝕄)),
    bigSep_univ_equiv farE (fun c : Dev nD => (dutyTok ER (cell c 4) 0 false : sProp 𝕄))]
  iintro ⟨H0, H0', H1, H2, H3, H4⟩
  isplitl [H0]; · iexact H0
  isplitl [H0']; · iexact H0'
  isplitl [H1]; · iexact H1
  isplitl [H2]; · iexact H2
  isplitl [H3]; · iexact H3
  iexact H4

/-- One device's share of the launch step: the counters it keeps, its invariants, the rest as minted. -/
def opened (c : Dev nD) : sProp 𝕄 :=
  iprop(rest4 c ∗ (bigSep Finset.univ fun k : Fin 5 => iprop(∃ κ : ℕ, cellInv ER (Rd m) κ (cell c k)))
    ∗ (bigSep Finset.univ fun k : Fin 5 => atPos ER (cell c k) 0 ∅ 0)
    ∗ (bigSep Finset.univ fun k : Fin 5 => reached ER (cell c k) 0) ∗ ownToks c)

/-- A device's counters, given up to the protocol, leave it with its part of the board and its duties. -/
theorem open_one (c : Dev nD) : iprop(ownSems c ∗ unscopedSems0 c ∗ minted m c) ⊢ |={Set.univ}=> opened m c := by
  unfold minted opened
  iintro ⟨Ho, Hu, Hs, Ha, Hr, Ht⟩
  ihave H := (sems_split (F := F) c) $$ [Ho Hu]
  · isplitl [Ho] <;> iassumption
  icases H with ⟨H4, H5⟩
  imod (share_cells m c) $$ [H5 Hs] with HI
  · isplitl [H5] <;> iassumption
  imodintro
  isplitl [H4]; · iexact H4
  isplitl [HI]; · iexact HI
  isplitl [Ha]; · iexact Ha
  isplitl [Hr]; · iexact Hr
  iexact Ht

/-- What a device starts from: the ghost state and the four counters it keeps. -/
def handed (c : Dev nD) : sProp 𝕄 := iprop(dealt m c ∗ rest4 c)

/-- The devices hand each other the duties that each has towards its partners. -/
theorem deal : (bigSep Finset.univ (opened m)) ⊢ bigSep Finset.univ (handed m) := by
  unfold opened handed
  simp only [bigSep_sep']
  rw [← bigSep_univ_prod (fun p : Dev nD × Fin 5 => iprop(∃ κ : ℕ, cellInv ER (Rd m) κ (cellAt p))),
    ← bigSep_univ_prod (fun p : Dev nD × Fin 5 => (reached ER (cellAt p) 0 : sProp 𝕄))]
  iintro ⟨H4, HI, Ha, #HR, Ht⟩
  ihave HK := (BI.bigSep_exists_pi Finset.univ (fun (p : Dev nD × Fin 5) (κ : ℕ) => (cellInv ER (Rd m) κ (cellAt p) : sProp 𝕄))) $$ HI
  icases HK with ⟨%K, #HI⟩
  ihave Ht := (hand_round (F := F)) $$ Ht
  isplitr [H4]
  · have hstep : iprop(board m K ∗ bigSep Finset.univ fun c : Dev nD => iprop((bigSep Finset.univ fun k : Fin 5 => atPos ER (cell c k) 0 ∅ 0) ∗ payToks c))
        ⊢ bigSep Finset.univ (dealt m) :=
      (sep_mono_left (BI.bigSep_of_persistent Finset.univ (board m K))).trans
        (by rw [← bigSep_sep']; exact bigSep_mono fun c _ => deal_one m K c)
    iapply hstep
    isplitr
    · unfold board; isplitl; · iexact HI
      iexact HR
    · iapply (Entails.of_eq (bigSep_sep' Finset.univ (fun c : Dev nD => bigSep Finset.univ fun k : Fin 5 => (atPos ER (cell c k) 0 ∅ 0 : sProp 𝕄)) payToks).symm)
      isplitl [Ha]; · iexact Ha
      iexact Ht
  · iexact H4

/-- The launch step over all devices at once. -/
theorem deal_all : (bigSep Finset.univ fun c => iprop(ownSems c ∗ unscopedSems0 c ∗ minted m c) : sProp 𝕄)
    ⊢ |={Set.univ}=> bigSep Finset.univ (handed m) :=
  ((bigSep_mono fun c _ => open_one m c).trans (bigSep_fupd _ _)).trans (BI.fupd_mono (deal m))

/-! ## The credit -/

/-- Counters are one only where device and number agree. -/
theorem cell_eq_iff {a b : Dev nD} {k j : Fin 5} : cell a k = cell b j ↔ a = b ∧ k = j :=
  ⟨fun h => by have := cellAt_injective (a₁ := (a, k)) (a₂ := (b, j)) h; exact ⟨congrArg Prod.fst this, congrArg Prod.snd this⟩,
    fun ⟨h, h'⟩ => by rw [h, h']⟩

/-- What a tally at one counter says at another. -/
theorem tally_cell (a b : Dev nD) (k j : Fin 5) (n : ℕ) :
    tallyAt (Ix := Unit) (cell a k) () n (cell b j) () = if b = a ∧ j = k then n else 0 := by
  rw [tallyAt_apply]
  exact if_congr (by rw [cell_eq_iff]; exact and_iff_left rfl) rfl rfl

/-- What device `d` owes counter `j` of device `c` at the start. -/
theorem owed_cell (d c : Dev nD) (j : Fin 5) :
    O₀ d (cell c j) () = (((if c = far d ∧ j = 4 then N else 0) + (if c = near d ∧ j = 2 then N else 0)) + (if c = near d ∧ j = 0 then 1 else 0))
      + (if c = third d ∧ j = 0 then 1 else 0) := by
  unfold O₀ O₁ O₂
  simp only [Pi.add_apply, Finsupp.add_apply]
  rw [tally_cell, tally_cell, tally_cell, tally_cell]

/-- An involution may be read from either side. -/
theorem eq_swap (f : Dev nD → Dev nD) (h : ∀ c, f (f c) = c) (c d : Dev nD) : c = f d ↔ d = f c :=
  ⟨fun e => by rw [e, h], fun e => by rw [e, h]⟩

/-- The credit a counter starts with is the sum of what all devices owe it. -/
theorem credit_at (c : Dev nD) (j : Fin 5) (n : ℕ) (h : ∑ d : Dev nD, O₀ d (cell c j) () = n) :
    tallyOn (cell c j) (launchCredit (Pipeline.owing O₀) 0 (cell c j)) = (tallyAt (cell c j) () n : CellTallies nD τ sig Unit) := by
  unfold tallyAt; refine congrArg _ (Finsupp.ext fun u => ?_); cases u
  rw [Pipeline.launchCredit_owing, Finsupp.single_eq_same, h]

/-- The barrier is owed two signals, -/
theorem credit0 (c : Dev nD) : ∑ d : Dev nD, O₀ d (cell c 0) () = 2 := by
  rw [Finset.sum_congr rfl fun d _ => owed_cell d c 0]
  simp only [eq_swap near near_near c, eq_swap third third_third c, show ¬ ((0 : Fin 5) = 4) by decide, show ¬ ((0 : Fin 5) = 2) by decide,
    and_false, if_false, and_true, zero_add]
  rw [Finset.sum_add_distrib, Finset.sum_ite_eq', Finset.sum_ite_eq', if_pos (Finset.mem_univ _), if_pos (Finset.mem_univ _)]
/-- the first exchange's landing one copy, -/
theorem credit2 (c : Dev nD) : ∑ d : Dev nD, O₀ d (cell c 2) () = N := by
  rw [Finset.sum_congr rfl fun d _ => owed_cell d c 2]
  simp only [eq_swap near near_near c, show ¬ ((2 : Fin 5) = 4) by decide, show ¬ ((2 : Fin 5) = 0) by decide,
    and_false, if_false, and_true, zero_add, add_zero]
  rw [Finset.sum_ite_eq', if_pos (Finset.mem_univ _)]
/-- and the second's one copy. -/
theorem credit4 (c : Dev nD) : ∑ d : Dev nD, O₀ d (cell c 4) () = N := by
  rw [Finset.sum_congr rfl fun d _ => owed_cell d c 4]
  simp only [eq_swap far far_far c, show ¬ ((4 : Fin 5) = 2) by decide, show ¬ ((4 : Fin 5) = 0) by decide,
    and_false, if_false, and_true, zero_add, add_zero]
  rw [Finset.sum_ite_eq', if_pos (Finset.mem_univ _)]

/-- So the launch gives each device the credit of its own three waits. -/
theorem creds_intro (c : Dev nD) : (Pipeline.launchCred O₀ c : sProp 𝕄) ⊢ creds c := by
  unfold Pipeline.launchCred creds
  rw [← credit_at c 0 2 (credit0 c), ← credit_at c 2 N (credit2 c), ← credit_at c 4 N (credit4 c)]
  rw [bigSep_univ_at _ (shared 0)]
  refine sep_mono_right ?_
  rw [bigSep_erase (Finset.mem_erase.mpr ⟨(by decide : shared 2 ≠ shared 0), Finset.mem_univ _⟩)]
  refine sep_mono_right ?_
  exact bigSep_elim (Finset.mem_erase.mpr ⟨(by decide : shared 4 ≠ shared 2), Finset.mem_erase.mpr ⟨(by decide : shared 4 ≠ shared 0), Finset.mem_univ _⟩⟩)

end Cert.KernelIdeal.Mesh

end
-- ==== Proof.Launch.lean ====
/-
The launch of the four devices: from any memory at rest the program ends, each device's result is the sum the exchanges
compute, its arguments are unchanged and every counter is at rest.
-/
module

public import proofs.«01_k».proof.Proof.Deal
public import Idealize.ShloMosaic.Lib.Pipeline.CollectiveSegs
public import Idealize.ShloMosaic.Lib.Quiescent

@[expose] public section

noncomputable section

namespace Cert.KernelIdeal.Mesh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## Before and after the body -/

/-- The five scratch buffers, at any contents. -/
abbrev some' (c : Dev nD) (b : Ref sig .tc) : sProp 𝕄 := iprop(∃ f : Buf (Elt F) ((c : Thread nD τ).loc b), ((c : Thread nD τ).loc b) ↦{fullShare} f)
/-- The scratch arrays, whatever they hold. -/
def scratch (c : Dev nD) : sProp 𝕄 :=
  iprop(some' c cc0_scratch0 ∗ some' c cc0_scratch1 ∗ some' c cc0_scratch2 ∗ some' c cc0_scratch3 ∗ some' c cc0_scratch4)

/-- The keys and the values, as at launch. -/
def keysValues (c : Dev nD) : sProp 𝕄 :=
  iprop((((c : Thread nD τ).loc main_arg2) ↦{fullShare} m ((c : Thread nD τ).loc main_arg2))
    ∗ (((c : Thread nD τ).loc main_arg3) ↦{fullShare} m ((c : Thread nD τ).loc main_arg3)))

/-- What a device starts from, its scratch buffers apart. -/
def begun (c : Dev nD) : sProp 𝕄 := iprop(handed m c ∗ creds c ∗ levAts L lv ∗ keysValues m c)

/-- What a device holds before its body, beside the staged arrays, -/
def before (c : Dev nD) : sProp 𝕄 := iprop(begun m c ∗ scratch c)
/-- and after it. -/
def after (c : Dev nD) : sProp 𝕄 := iprop(keysValues m c ∗ (rest4 c ∗ rest5 c) ∗ scratch c)

/-- The launch's data of each device. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wqAt m c
    | ⟨2, _⟩ => woAt m c
    | ⟨3, _⟩ => outAt m c
  Φ t := match t with
    | ⟨0, _⟩ => before m c
    | ⟨_ + 1, _⟩ => after m c
  q _ := fullShare
  owed t := match t with
    | ⟨0, _⟩ => O₀ c
    | ⟨_ + 1, _⟩ => 0

/-- Owning a whole array through its view is owning the array. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Buffer `b` of device `c` at contents `X`. -/
abbrev at' (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The scratch buffers in halves -/

/-- The two exchange buffers split into halves, -/
theorem halve (c : Dev nD) : iprop(some' (F := F) c cc0_scratch1 ∗ some' c cc0_scratch2) ⊢ halves c := by
  unfold halves
  iintro ⟨⟨%f, Hf⟩, ⟨%g, Hg⟩⟩
  ihave Hf := (whole_split cc0_scratch1 half0 half1 (fun _ => rfl) (fun _ => rfl) squeezes_S1x256x1024_S256x1024 squeezes_S1x256x1024_S256x1024
    halves_disjoint halves_cover c f) $$ Hf
  ihave Hg := (whole_split cc0_scratch2 half0 half1 (fun _ => rfl) (fun _ => rfl) squeezes_S1x256x1024_S256x1024 squeezes_S1x256x1024_S256x1024
    halves_disjoint halves_cover c g) $$ Hg
  icases Hf with ⟨F0, F1⟩
  icases Hg with ⟨G0, G1⟩
  isplitl [F0]; · iexists f; iexact F0
  isplitl [F1]; · iexists f; iexact F1
  isplitl [G0]; · iexists g; iexact G0
  iexists g; iexact G1

/-- and joined again. -/
theorem unhalve (c : Dev nD) : halves (F := F) c ⊢ iprop(some' c cc0_scratch1 ∗ some' c cc0_scratch2) := by
  unfold halves
  iintro ⟨⟨%f, F0⟩, ⟨%f', F1⟩, ⟨%g, G0⟩, ⟨%g', G1⟩⟩
  isplitl [F0 F1]
  · iapply (whole_join cc0_scratch1 half0 half1 (fun _ => rfl) (fun _ => rfl) squeezes_S1x256x1024_S256x1024 squeezes_S1x256x1024_S256x1024
      halves_disjoint halves_cover c f f')
    isplitl [F0] <;> iassumption
  · iapply (whole_join cc0_scratch2 half0 half1 (fun _ => rfl) (fun _ => rfl) squeezes_S1x256x1024_S256x1024 squeezes_S1x256x1024_S256x1024
      halves_disjoint halves_cover c g g')
    isplitl [G0] <;> iassumption

/-- The key and value buffers split into slots, -/
theorem slot (c : Dev nD) : iprop(some' (F := F) c cc0_scratch3 ∗ some' c cc0_scratch4) ⊢ slots c := by
  unfold slots
  iintro ⟨⟨%f, Hf⟩, ⟨%g, Hg⟩⟩
  ihave Hf := (whole_split cc0_scratch3 slab0 slab1 (fun _ => rfl) (fun _ => rfl) squeezes_S1x4096x128_S4096x128 squeezes_S1x4096x128_S4096x128
    slabs_disjoint slabs_cover c f) $$ Hf
  ihave Hg := (whole_split cc0_scratch4 slab0 slab1 (fun _ => rfl) (fun _ => rfl) squeezes_S1x4096x128_S4096x128 squeezes_S1x4096x128_S4096x128
    slabs_disjoint slabs_cover c g) $$ Hg
  icases Hf with ⟨F0, F1⟩
  icases Hg with ⟨G0, G1⟩
  isplitl [F0]; · iexists f; iexact F0
  isplitl [F1]; · iexists f; iexact F1
  isplitl [G0]; · iexists g; iexact G0
  iexists g; iexact G1

/-- and joined again. -/
theorem unslot (c : Dev nD) : slots (F := F) c ⊢ iprop(some' c cc0_scratch3 ∗ some' c cc0_scratch4) := by
  unfold slots
  iintro ⟨⟨%f, F0⟩, ⟨%f', F1⟩, ⟨%g, G0⟩, ⟨%g', G1⟩⟩
  isplitl [F0 F1]
  · iapply (whole_join cc0_scratch3 slab0 slab1 (fun _ => rfl) (fun _ => rfl) squeezes_S1x4096x128_S4096x128 squeezes_S1x4096x128_S4096x128
      slabs_disjoint slabs_cover c f f')
    isplitl [F0] <;> iassumption
  · iapply (whole_join cc0_scratch4 slab0 slab1 (fun _ => rfl) (fun _ => rfl) squeezes_S1x4096x128_S4096x128 squeezes_S1x4096x128_S4096x128
      slabs_disjoint slabs_cover c g g')
    isplitl [G0] <;> iassumption

/-! ## The body -/

/-- All the body starts with, -/
def bodyBefore (c : Dev nD) : sProp 𝕄 :=
  iprop(before m c ∗ (dats m 0 c).owesAt () t0_0.castSucc
    ∗ (∃ d, at' c cc0_stg0_0 ((dats m 0 c).before (0 : Fin 4) t0_0 d)) ∗ (∃ d, at' c cc0_stg1_0 ((dats m 0 c).before (1 : Fin 4) t0_0 d))
    ∗ (∃ d, at' c cc0_stg2_0 ((dats m 0 c).before (2 : Fin 4) t0_0 d)) ∗ (∃ d, at' c cc0_stg3_0 ((dats m 0 c).before (3 : Fin 4) t0_0 d)))

/-- and all it ends with. -/
def bodyAfter (c : Dev nD) : sProp 𝕄 :=
  iprop(after m c ∗ (dats m 0 c).owesAt () t0_0.succ ∗ at' c cc0_stg0_0 (xAt m c) ∗ at' c cc0_stg1_0 (wqAt m c)
    ∗ at' c cc0_stg2_0 (woAt m c) ∗ at' c cc0_stg3_0 (outAt m c))

/-- What the run leaves, sorted as the launch takes it back. -/
theorem leave (c : Dev nD) : left m c ⊢ bodyAfter m c := by
  unfold left inputs bodyAfter after keysValues scratch Dat.owesAt Pipeline.owesWithin
  rw [show (dats m 0 c).owed t0_0.succ = 0 from rfl]
  iintro ⟨⟨%W, HO⟩, H4, H5, ⟨Hx, Hq, Hw, HK, HV⟩, Hsl, Ho, Ha, Hh⟩
  ihave Hsl := (unslot (F := F) c) $$ Hsl
  ihave Hh := (unhalve (F := F) c) $$ Hh
  icases Hsl with ⟨S3, S4⟩
  icases Hh with ⟨S1, S2⟩
  isplitl [HK HV H4 H5 Ha S1 S2 S3 S4]
  · isplitl [HK HV]
    · isplitl [HK]; · iexact HK
      iexact HV
    isplitl [H4 H5]
    · isplitl [H4]; · iexact H4
      iexact H5
    isplitl [Ha]; · iexact Ha
    isplitl [S1]; · iexact S1
    isplitl [S2]; · iexact S2
    isplitl [S3]; · iexact S3
    iexact S4
  isplitl [HO]
  · iexists W
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Ho

/-- The body finds the tokens in its first staged array, -/
theorem staged0 (c : Dev nD) (d) : (dats m 0 c).before (0 : Fin 4) t0_0 d = xAt m c := by
  unfold Dat.before; rw [if_pos (fetch0_0 t0_0)]; rfl
/-- the query weights in the second, -/
theorem staged1 (c : Dev nD) (d) : (dats m 0 c).before (1 : Fin 4) t0_0 d = wqAt m c := by
  unfold Dat.before; rw [if_pos (fetch0_1 t0_0)]; rfl
/-- the output weights in the third. -/
theorem staged2 (c : Dev nD) (d) : (dats m 0 c).before (2 : Fin 4) t0_0 d = woAt m c := by
  unfold Dat.before; rw [if_pos (fetch0_2 t0_0)]; rfl

/-- The body runs from the one to the other. -/
theorem body_run (c : Dev nD) :
    bodyBefore m c ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole main_arg2) (Memref.isWhole_whole _)
            (Memref.whole main_arg3) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8) (fun _ => bodyAfter m c) := by
  unfold bodyBefore before begun handed dealt scratch keysValues Dat.owesAt Pipeline.owesWithin
  rw [show (dats m 0 c).owed t0_0.castSucc = O₀ c from rfl]
  simp only [staged0, staged1, staged2]
  iintro ⟨⟨⟨⟨⟨%K, Hg⟩, H4⟩, Hcr, Hlev, HK, HV⟩, ⟨%a, Ha⟩, S1, S2, S3, S4⟩, ⟨%W, -, HO⟩, ⟨%d0, %f0, %e0, Hx⟩, ⟨%d1, %f1, %e1, Hq⟩, ⟨%d2, %f2, %e2, Hw⟩, ⟨%d3, %f3, -, Ho⟩⟩
  subst e0 e1 e2
  iapply (run m K c W f3 a fun _ => bodyAfter m c)
  isplitl [Hg]; · iexact Hg
  isplitl [Hcr]; · iexact Hcr
  isplitl [Hlev]; · iexact Hlev
  isplitl [HO]; · iexact HO
  isplitl [H4]; · iexact H4
  isplitl [Hx Hq Hw HK HV]
  · unfold inputs
    isplitl [Hx]; · iexact Hx
    isplitl [Hq]; · iexact Hq
    isplitl [Hw]; · iexact Hw
    isplitl [HK]; · iexact HK
    iexact HV
  isplitl [S3 S4]
  · iapply (slot (F := F) c)
    isplitl [S3] <;> iassumption
  isplitl [Ho]; · iexact Ho
  isplitl [Ha]; · iexact Ha
  isplitl [S1 S2]
  · iapply (halve (F := F) c)
    isplitl [S1] <;> iassumption
  iintro H
  iapply (leave m c)
  iexact H

/-- So it meets what the launch asks of a body. -/
theorem body_obligation (c : Dev nD) : BodyObligation (dats (F := F) m 0 c) (defs₀ (F := F)) 𝒱₀ () Set.univ := fun t => by
  rw [fin_N0 t, bigSep_W0, bigSep_W0]
  simp only [owns_whole]
  exact body_run m c

/-! ## The launch's side conditions -/

/-- The minted element: the pipeline's rounds, and those of the shared counters. -/
def u₀ : UU :=
  (initOf (Pipeline.cells cfgs cellOf_inj) (Pipeline.launchToks cfgs cellOf_inj), (initOf cellsOf dutiesOf, (1 : Counters)))

/-- The first state of the launch's counters and of the shared ones, made together. -/
theorem mint_all : (ownU u₀ : sProp 𝕄)
    ⊢ |={Set.univ}=> iprop(BI.own (EP (initOf (Pipeline.cells cfgs cellOf_inj) (Pipeline.launchToks cfgs cellOf_inj))) ∗ bigSep Finset.univ (minted m)) := by
  have h (a : UR sig nD τ) (b : UB) : (ownU ((a, (b, (1 : Counters))) : UU) : sProp 𝕄) ⊢ iprop(BI.own (EP a) ∗ BI.own (ER b)) :=
    BI.own_op_elim ((uEmb (nD := nD) (sig := sig) (Ix := Unit) (Val := Elt F) (Name := ℕ) (U := UU) (Lvl := ℕ)).toEmb.op_of_mem
      (Prod.mk_mem_op (URA.mem_op_one a) (URA.mem_one_op (b, (1 : Counters)))))
  unfold u₀
  iintro H
  ihave H := (h _ _) $$ H
  icases H with ⟨HP, HR⟩
  imod (mint m) $$ HR with HG
  imodintro
  isplitl [HP] <;> iassumption

/-- What the launch leaves a device with is the start of its protocol, -/
theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ handed m c)
      ⊢ |={Set.univ}=> iprop(begun m c ∗ emp) := by
  rw [Pipeline.unscopedRestP_none, unscopedRest0_eq]
  unfold begun keysValues
  iintro ⟨HKV, Hlev, Hcr, -, HG⟩
  ihave Hcr := (creds_intro (F := F) c) $$ Hcr
  imodintro
  isplitl
  · isplitl [HG]; · iexact HG
    isplitl [Hcr]; · iexact Hcr
    isplitl [Hlev]; · iexact Hlev
    iexact HKV
  · iempintro

/-- and with the scratch arrays what the body needs. -/
theorem before_intro (c : Dev nD) :
    iprop(begun m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨Hs, -, Hr⟩
  isplitl [Hs]; · iexact Hs
  iexact Hr

/-- What a device ends with, beside its scratch buffers and its own counters. -/
def ended (c : Dev nD) : sProp 𝕄 := iprop(unscopedSems0 c ∗ keysValues m c)

/-- What the body leaves is the end of the protocol and the scratch arrays. -/
theorem after_exit (c : Dev nD) :
    (dats m 0 c).Φ (Fin.last cfg0.N) ⊢ iprop(ended m c ∗ ownSems c ∗ Pipeline.scopedRest cfg0.spec c) := by
  rw [show (dats m 0 c).Φ (Fin.last cfg0.N) = after m c from rfl, scopedRest0_eq]
  unfold after scratch ended
  iintro ⟨HKV, Hsem, Hr⟩
  ihave Hsem := (sems_join (F := F) c) $$ Hsem
  icases Hsem with ⟨Hu, Ho⟩
  isplitl [Hu HKV]
  · isplitl [Hu] <;> iassumption
  isplitl [Ho]; · iexact Ho
  iexact Hr

/-- Every wait of the launch's own copies is allowed. -/
theorem waits (c : Dev nD) : (levAts L lv : sProp 𝕄) ⊢ Pipeline.cellsWaits cfgs (dats m) () 0 c :=
  Pipeline.cellsWaits_intro cfgs (dats m) () 0 c fun w s t =>
    mayWait_low c _ (by rw [lv_of]; fin_cases w <;> fin_cases s <;> decide +kernel) _ (by
      rcases t with ⟨_ | _, ht⟩
      · exact Or.inl rfl
      · exact Or.inr (Or.inr (Or.inr rfl)))

/-- What the end state shows of the barrier counter, the keys and the values. -/
def shown (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2)
    ∧ s.mem ((c : Thread nD τ).loc main_arg3) = m ((c : Thread nD τ).loc main_arg3)

/-- A fact read off the state leaves the state as it was. -/
theorem keep {P : sProp 𝕄} {φ : Prop} {s' : Phys nD τ sig (Elt F)} (h : iprop(SI s' ∗ P) ⊢ (⌜φ⌝ : sProp 𝕄)) :
    iprop(P ∗ SI s') ⊢ iprop(⌜φ⌝ ∗ SI s') :=
  (sep_comm.1.trans (persistent_entails_right h)).trans (sep_mono_right sep_elim_left)

/-- At the end of a device its memory shows the result and the arguments. -/
theorem ended_read (c : Dev nD) (s' : Phys nD τ sig (Elt F)) :
    iprop(ended m c ∗ emp ∗ SI s') ⊢ |={Set.univ}=> iprop(⌜shown m c s'.mem⌝ ∗ SI s') := by
  unfold ended keysValues
  iintro ⟨⟨Hu, HK, HV⟩, -, HSI⟩
  ihave H := (keep (P := iprop(((c : Thread nD τ).loc main_arg2) ↦{fullShare} m ((c : Thread nD τ).loc main_arg2))) SI_pointsTo_agree) $$ [HK HSI]
  · isplitl [HK] <;> iassumption
  icases H with ⟨%h2, HSI⟩
  ihave H := (keep (P := iprop(((c : Thread nD τ).loc main_arg3) ↦{fullShare} m ((c : Thread nD τ).loc main_arg3))) SI_pointsTo_agree) $$ [HV HSI]
  · isplitl [HV] <;> iassumption
  icases H with ⟨%h3, HSI⟩
  imod (Pipeline.unscopedSems0_read (X := unscopedSems0 c) (c := c) fupd_intro s') $$ [Hu HSI] with ⟨%h0, HSI⟩
  · isplitl [Hu] <;> iassumption
  imodintro
  isplitr
  · ipureintro
    exact ⟨h0, funext fun i => h2 i (Finset.mem_univ i), funext fun i => h3 i (Finset.mem_univ i)⟩
  iexact HSI

/-! ## The run of the program -/

/-- Every staged array is held in full. -/
theorem share_full (c : Dev nD) (w : Fin cfg0.W) : (dats m 0 c).share w = fullShare := by unfold Dat.share; split <;> rfl

/-- The result array of device `c` ends at `outAt m c`; the staged arrays stay as they were. -/
theorem end_out (c : Dev nD) : (dats m 0 c).arrAt (3 : Fin 4) cfg0.N = outAt m c := by
  have hz : (fun a => (win0_3.index (0 : Fin 1)) a * main_v1.ty.shape.size a) = fun _ => 0 := funext fun a => by fin_cases a <;> decide
  have hr := fun f => Memref.read_access_unit_zero (Elt F) main_v1 hz (fun a => by fin_cases a <;> decide) f
  have h : (win0_3.blk (0 : Fin 1)).view.read (Elt F) ((dats m 0 c).arrAt (3 : Fin 4) cfg0.N) = outAt m c := by
    rw [show cfg0.N = ((0 : Fin 1) : Fin cfg0.N).val + 1 from rfl, (dats m 0 c).arrAt_succ (3 : Fin 4) (0 : Fin 1)]
    rw [show (cfg0.win (3 : Fin 4)).flush (0 : Fin 1) = true from flush0_3 _, if_pos rfl]
    exact View.read_write_univ _ _
  exact (hr _).symm.trans h

/-- What the run ends in: each device's result, its arguments, and every counter at rest. -/
def Ends (r : PUnit × MemSt nD τ sig (Elt F)) : Prop :=
  (∀ c : Dev nD, r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
  ∧ r.2.sem = fun _ => 0

set_option maxRecDepth 8000 in
/-- For any float values, from any memory with every counter at rest, every fair execution of the four devices ends, and ends so. -/
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := minted m) (G' := handed m) (u₀ := u₀) (hu₀ := mint_all m)
    (hglob := deal_all m)
    (hA := fun _ _ => rfl) (hpf := fun _ k => k.elim0)
    (X := begun m) (Y := ended m) (Z := fun _ => iprop(emp))
    (hX := begin_intro m ρ) (hin := before_intro m) (hout := after_exit m)
    (QY := shown m) (hY := ended_read m)
    (hQ := fun s h hs => ⟨fun c =>
        ⟨((h c).1 (3 : Fin 4)).trans (end_out m c), ((h c).1 (0 : Fin 4)).trans ((dats m 0 c).arrAt_in (0 : Fin 4) rfl _),
          ((h c).1 (1 : Fin 4)).trans ((dats m 0 c).arrAt_in (1 : Fin 4) rfl _), (h c).2.2.2.1, (h c).2.2.2.2,
          ((h c).1 (2 : Fin 4)).trans ((dats m 0 c).arrAt_in (2 : Fin 4) rfl _)⟩,
      sem_eq_zero hs fun c => (h c).2.2.1⟩)

end Cert.KernelIdeal.Mesh

end
-- ==== Proof.Frames.lean ====
/-
Each program alone: it ends, its arguments are unchanged and every counter is at rest.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The two readings of the kernel call the same body, -/
theorem bodies_eq : Cert.Kernel.defs₀ (F := Bits) = Cert.KernelIdeal.defs₀ (F := Bits) := by
  delta Cert.Kernel.defs₀ Cert.KernelIdeal.defs₀
  refine congrArg Defs.onTc ?_
  funext l x
  match l, x with
  | 0, (t, s) =>
    dsimp only
    congr 1

/-- and so have the same definitions. -/
theorem defs_eq : Cert.Kernel.defs (F := Bits) = Cert.KernelIdeal.defs (F := Bits) := by
  delta Cert.Kernel.defs Cert.KernelIdeal.defs
  rw [bodies_eq]
  rfl

/-- The kernel over bit patterns, -/
theorem frame_kernel : Cert.quiescent_Kernel := by
  intro m ρ _
  rw [defs_eq]
  exact (θ_run Cert.KernelIdeal.defs _ _).mono (fun _ h => ⟨fun c => (h.1 c).2, h.2⟩)
    (Cert.KernelIdeal.Mesh.run_main (F := Bits) m ρ)

/-- the kernel over the reals, -/
theorem frame_ideal : Cert.quiescent_KernelIdeal := fun m ρ _ =>
  (θ_run Cert.KernelIdeal.defs _ _).mono (fun _ h => ⟨fun c => (h.1 c).2, h.2⟩) (Cert.KernelIdeal.Mesh.run_main (F := Ideal) m ρ)

/-- and the reference over the reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Softmax.lean ====
/-
The arithmetic of a softmax on the extended reals: a weighted mean with real scores, the chunk-by-chunk computation of
it with a running maximum, and sums over an index split in blocks.
-/
module

public import Idealize.ShloMosaic.PureOps.Ideal
public import Mathlib.Logic.Equiv.Fin.Basic
public import Mathlib.Algebra.BigOperators.Fin

@[expose] public section

noncomputable section

namespace Cert.Softmax

open Idealize.ShloMosaic
open scoped BigOperators

/-! ## Sums -/

/-- A sum over `a * b` positions, by blocks of `b`. -/
theorem sum_blocks {M : Type} [AddCommMonoid M] (a b n : ℕ) (h : n = a * b) (f : Fin n → M) :
    ∑ x, f x = ∑ i : Fin a, ∑ j : Fin b, f ⟨i.val * b + j.val, h ▸ by
      calc i.val * b + j.val < i.val * b + b := Nat.add_lt_add_left j.isLt _
        _ = (i.val + 1) * b := (Nat.succ_mul _ _).symm
        _ ≤ a * b := Nat.mul_le_mul_right _ i.isLt⟩ := by
  subst h
  rw [← Equiv.sum_comp finProdFinEquiv, Fintype.sum_prod_type]
  refine Finset.sum_congr rfl fun i _ => Finset.sum_congr rfl fun j _ => congrArg f (Fin.ext ?_)
  simp [finProdFinEquiv, Nat.add_comm, Nat.mul_comm]

/-- A finite sum of reals is the real sum. -/
theorem sum_coe {ι : Type} (S : Finset ι) (f : ι → ℝ) : ∑ x ∈ S, (f x : EReal) = ((∑ x ∈ S, f x : ℝ) : EReal) := by
  classical
  induction S using Finset.induction_on with
  | empty => simp
  | insert a S ha ih => rw [Finset.sum_insert ha, Finset.sum_insert ha, ih, EReal.coe_add]

/-- A nonnegative real factor passes into a sum. -/
theorem sum_mul_coe {ι : Type} (S : Finset ι) (f : ι → EReal) (r : ℝ) (hr : 0 ≤ r) :
    (∑ x ∈ S, f x) * (r : EReal) = ∑ x ∈ S, f x * (r : EReal) := by
  classical
  induction S using Finset.induction_on with
  | empty => simp
  | insert a S ha ih =>
    rw [Finset.sum_insert ha, Finset.sum_insert ha, ← ih, mul_comm _ (r : EReal), mul_comm _ (r : EReal), mul_comm _ (r : EReal)]
    exact EReal.left_distrib_of_nonneg_of_ne_top (EReal.coe_nonneg.2 hr) (EReal.coe_ne_top r) _ _

/-! ## Reals among the extended reals -/

/-- An extended real that is a real. -/
def IsReal (x : EReal) : Prop := ∃ r : ℝ, x = (r : EReal)

/-- Products of reals are real, -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- sums, -/
theorem IsReal.sum {ι : Type} {S : Finset ι} {f : ι → EReal} (h : ∀ x ∈ S, IsReal (f x)) : IsReal (∑ x ∈ S, f x) := by
  classical
  choose! g hg using h
  exact ⟨∑ x ∈ S, g x, (Finset.sum_congr rfl hg).trans (sum_coe S g)⟩

/-- and maxima. -/
theorem IsReal.sup {x y : EReal} (hx : IsReal x) (hy : IsReal y) : IsReal (max x y) := by
  rcases max_choice x y with h | h <;> rw [h] <;> assumption

/-- Below `⊤` in absolute value is real. -/
theorem IsReal.of_abs_lt {x : EReal} (h : max x (-x) < ⊤) : IsReal x := by
  obtain ⟨h1, h2⟩ := max_lt_iff.1 h
  induction x with
  | bot => exact absurd h2 (by simp)
  | top => exact absurd h1 (by simp)
  | coe r => exact ⟨r, rfl⟩

/-- The greatest of finitely many reals, one at least, taken up from `⊥`, is real. -/
theorem IsReal.fold_max {ι : Type} [Fintype ι] [Nonempty ι] {f : ι → EReal} (h : ∀ x, IsReal (f x)) :
    IsReal (Finset.univ.fold max ⊥ f) := by
  classical
  have key : ∀ S : Finset ι, S.fold max ⊥ f = ⊥ ∧ S = ∅ ∨ IsReal (S.fold max ⊥ f) := by
    intro S
    induction S using Finset.induction_on with
    | empty => exact Or.inl ⟨rfl, rfl⟩
    | insert a S ha ih =>
      right
      rw [Finset.fold_insert ha]
      rcases ih with ⟨e, _⟩ | e
      · rw [e, max_bot_right]; exact h a
      · exact (h a).sup e
  rcases key Finset.univ with ⟨_, e⟩ | e
  · exact absurd e Finset.univ_nonempty.ne_empty
  · exact e

/-- A scale on the queries is a scale on the scores. -/
theorem score_scale {ι : Type} [Fintype ι] {q k : ι → EReal} {c : EReal} (hq : ∀ d, IsReal (q d)) (hk : ∀ d, IsReal (k d))
    (hc : IsReal c) : ∑ d, k d * (q d * c) = (∑ d, q d * k d) * c := by
  choose a ha using hq
  choose b hb using hk
  obtain ⟨r, rfl⟩ := hc
  simp only [ha, hb, ← EReal.coe_mul]
  rw [sum_coe, sum_coe, ← EReal.coe_mul, Finset.sum_mul]
  exact congrArg _ (Finset.sum_congr rfl fun d _ => by ring)

/-! ## A chunk of an online softmax -/

/-- The sum of the values under the weights `exp s`, and of those weights. -/
def num {ι : Type} [Fintype ι] (s v : ι → EReal) : EReal := ∑ j, Ideal.exp (s j) * v j
/-- the sum of the weights. -/
def den {ι : Type} [Fintype ι] (s : ι → EReal) : EReal := ∑ j, Ideal.exp (s j)

/-- The mean of `v` under the weights `exp s`. -/
def mean {ι : Type} [Fintype ι] (s v : ι → EReal) : EReal := Ideal.div (num s v) (den s)

/-- A running numerator and denominator at the running maximum `t`, standing for `A` and `L`. -/
structure Holds (t l o : EReal) (L A : EReal) : Prop where
  ex : ∃ r d : ℝ, t = (r : EReal) ∧ L = (d : EReal) ∧ 0 < d ∧ l = ((d * Real.exp (-r) : ℝ) : EReal) ∧ o = A * (Real.exp (-r) : ℝ)

variable {ι : Type} [Fintype ι]

/-- The weights against the new maximum. -/
theorem exp_sub (a b : ℝ) : Ideal.exp ((a : EReal) - (b : EReal)) = (Real.exp a : EReal) * (Real.exp (-b) : ℝ) := by
  rw [← EReal.coe_sub, ← EReal.coe_mul, ← Real.exp_add, ← sub_eq_add_neg]; rfl

/-- The weights under a maximum, summed; -/
theorem sum_weights (s : ι → ℝ) (t' : ℝ) :
    ∑ j, Ideal.exp ((s j : EReal) - (t' : EReal)) = (((∑ j, Real.exp (s j)) * Real.exp (-t') : ℝ) : EReal) := by
  rw [Finset.sum_mul, ← sum_coe]
  exact Finset.sum_congr rfl fun j _ => by rw [exp_sub, EReal.coe_mul]

/-- and summed with the values. -/
theorem sum_weighted (s : ι → ℝ) (v : ι → EReal) (t' : ℝ) :
    ∑ j, v j * Ideal.exp ((s j : EReal) - (t' : EReal)) = num (fun j => (s j : EReal)) v * (Real.exp (-t') : ℝ) := by
  rw [num, sum_mul_coe _ _ _ (Real.exp_pos _).le]
  refine Finset.sum_congr rfl fun j _ => ?_
  rw [exp_sub, ← mul_assoc, mul_comm (v j)]; rfl

/-- The denominator of real scores is real. -/
theorem den_coe (s : ι → ℝ) : den (fun j => (s j : EReal)) = ((∑ j, Real.exp (s j) : ℝ) : EReal) := sum_coe _ _

/-- The first chunk, from a maximum of `⊥`. -/
theorem Holds.first [Nonempty ι] {s v : ι → EReal} {t' : EReal} (hs : ∀ j, IsReal (s j)) (ht : IsReal t') :
    Holds t' (0 * Ideal.exp (⊥ - t') + ∑ j, Ideal.exp (s j - t')) (0 * Ideal.exp (⊥ - t') + ∑ j, v j * Ideal.exp (s j - t'))
      (den s) (num s v) := by
  choose a ha using hs
  obtain ⟨r, rfl⟩ := ht
  obtain rfl : s = fun j => (a j : EReal) := funext ha
  refine ⟨r, ∑ j, Real.exp (a j), rfl, den_coe a, Finset.sum_pos (fun j _ => Real.exp_pos _) Finset.univ_nonempty, ?_, ?_⟩
  · rw [zero_mul, zero_add, sum_weights]
  · rw [zero_mul, zero_add, sum_weighted]

/-- A later one. -/
theorem Holds.next {t l o L A : EReal} (h : Holds t l o L A) {s v : ι → EReal} {t' : EReal} (hs : ∀ j, IsReal (s j)) (ht : IsReal t') :
    Holds t' (l * Ideal.exp (t - t') + ∑ j, Ideal.exp (s j - t')) (o * Ideal.exp (t - t') + ∑ j, v j * Ideal.exp (s j - t'))
      (L + den s) (A + num s v) := by
  choose a ha using hs
  obtain ⟨r', rfl⟩ := ht
  obtain rfl : s = fun j => (a j : EReal) := funext ha
  obtain ⟨r, d, rfl, rfl, hd, rfl, rfl⟩ := h.ex
  have e : Real.exp (-r) * (Real.exp r * Real.exp (-r')) = Real.exp (-r') := by
    rw [← mul_assoc, ← Real.exp_add, neg_add_cancel, Real.exp_zero, one_mul]
  refine ⟨r', d + ∑ j, Real.exp (a j), rfl, by rw [den_coe, EReal.coe_add], add_pos_of_pos_of_nonneg hd (Finset.sum_nonneg fun j _ => (Real.exp_pos _).le), ?_, ?_⟩
  · rw [sum_weights, exp_sub, ← EReal.coe_mul, ← EReal.coe_mul, ← EReal.coe_add, mul_assoc, e, add_mul]
  · rw [sum_weighted, exp_sub, mul_assoc, ← EReal.coe_mul, ← EReal.coe_mul, e, mul_comm (A + _), mul_comm A, mul_comm (num _ v)]
    exact (EReal.left_distrib_of_nonneg_of_ne_top (EReal.coe_nonneg.2 (Real.exp_pos _).le) (EReal.coe_ne_top _) _ _).symm

/-- The quotient forgets the maximum. -/
theorem Holds.div {t l o L A : EReal} (h : Holds t l o L A) : Ideal.div o l = Ideal.div A L := by
  obtain ⟨r, d, rfl, rfl, hd, rfl, rfl⟩ := h.ex
  have h1 : (d * Real.exp (-r)) ≠ 0 := (mul_pos hd (Real.exp_pos _)).ne'
  have h2 : (((d * Real.exp (-r) : ℝ) : EReal)) ≠ 0 := fun e => h1 (EReal.coe_eq_zero.1 e)
  have h3 : ((d : ℝ) : EReal) ≠ 0 := fun e => hd.ne' (EReal.coe_eq_zero.1 e)
  rw [Ideal.div, Ideal.div, if_neg h2, if_neg h3, mul_assoc, ← EReal.coe_inv, ← EReal.coe_inv, ← EReal.coe_mul]
  congr 2
  have := (Real.exp_pos (-r)).ne'
  field_simp

end Cert.Softmax

end
-- ==== Proof.Finite.lean ====
/-
What the precondition says: every element of the tokens, the weights of the queries and the keys is a real number.
-/
module

public import proofs.«01_k».proof.Defs
public import proofs.«01_k».proof.Proof.Softmax
public import Idealize.ShloMosaic.Lib.ReduceAll
public import Idealize.ShloMosaic.Lib.Affine
public import Idealize.ShloMosaic.Lib.Pointwise

@[expose] public section

set_option maxRecDepth 16384

noncomputable section

namespace Cert.Proof

open Idealize.ShloMosaic Cert.Softmax

/-- The shape relations the precondition's operations take, on the kernel's arguments, -/
theorem facts_finite_kernel : Cert.Pre_finite_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x8x128 := by decide
  reducesTo_S1x4096x8x128_S_d0_1_2_3 := by decide

/-- and on the reference's. -/
theorem facts_finite_reference : Cert.Pre_finite_ReferenceIdeal.Facts where
  bcast_S_S1x256x1024 := by decide
  reducesTo_S1x256x1024_S_d0_1_2 := by decide
  h_S_ := by decide
  bcast_S_S1024x4096 := by decide
  reducesTo_S1024x4096_S_d0_1 := by decide
  bcast_S_S1x4096x32x128 := by decide
  reducesTo_S1x4096x32x128_S_d0_1_2_3 := by decide

/-- An array all of whose magnitudes are below infinity is real. -/
theorem real_of_all {s t u : Shape} {axes : List (Fin s.rank)} [Subsingleton t.Idx] (x : s.Idx → EReal) (b : s.Idx → EReal) (hb : ∀ i, b i = ⊤)
    (init : u.Idx → BitVec 1) (hr : s.ReducesTo axes t) (hu : 0 < u.numel) (j : t.Idx)
    (e : Host.reduce IntOp.andi (cmpf (F := Ideal) (φ := .f32) .olt (Host.absf (F := Ideal) (φ := .f32) x) b) init hr hu j = 1#1) (i : s.Idx) : IsReal (x i) := by
  have h := Host.reduce_andi_all _ init hr hu j e i
  refine IsReal.of_abs_lt ?_
  have h' : Ideal.cmp .olt (max (x i) (-(x i))) (b i) = 1#1 := h
  rw [hb i] at h'
  by_contra hn
  have hd : decide (max (x i) (-(x i)) < (⊤ : EReal)) = false := decide_eq_false hn
  exact absurd ((congrArg BitVec.ofBool hd).symm.trans h') (by decide)

/-- The bound is infinity. -/
theorem bits_top : Ideal.ofBits .f32 0x7F800000#32 = ⊤ := by simp [Ideal.ofBits, Ideal.ieee]

/-- Where the precondition holds of a device's arrays, its tokens, query weights and keys are real. -/
theorem finite_real [Cert.Pre_finite_KernelIdeal.Facts] (x : FVec Ideal Cert.Pre_finite_KernelIdeal.S1x256x1024 .f32)
    (w : FVec Ideal Cert.Pre_finite_KernelIdeal.S1024x1024 .f32) (k v : FVec Ideal Cert.Pre_finite_KernelIdeal.S1x4096x8x128 .f32)
    (o : FVec Ideal Cert.Pre_finite_KernelIdeal.S1024x1024 .f32)
    (h : Cert.Pre_finite_KernelIdeal.fn (F := Ideal) x w k v o = fun _ => 1#1) :
    (∀ i, IsReal (x i)) ∧ (∀ i, IsReal (w i)) ∧ ∀ i, IsReal (k i) := by
  haveI : Subsingleton Cert.Pre_finite_KernelIdeal.S_.Idx := ⟨fun a b => funext fun i => i.elim0⟩
  unfold Cert.Pre_finite_KernelIdeal.fn at h
  have h0 := congrFun h (fun i => i.elim0)
  dsimp only at h0
  obtain ⟨h1, h2⟩ := IntOp.andi_eq_one.1 h0
  obtain ⟨h3, h4⟩ := IntOp.andi_eq_one.1 h1
  exact ⟨real_of_all x _ (fun _ => bits_top) _ _ _ _ h3, real_of_all w _ (fun _ => bits_top) _ _ _ _ h4,
    real_of_all k _ (fun _ => bits_top) _ _ _ _ h2⟩

end Cert.Proof

end
-- ==== Proof.KerValue.lean ====
/-
What each device computes, over the extended reals: each head is the mean of its values under the exponentials of its
scores, a device's part of the result is the product of its heads with its block of the output weights, and the result is
the sum of the four parts.
-/
module

public import proofs.«01_k».proof.Proof.Values
public import proofs.«01_k».proof.Proof.Softmax
public import Idealize.ShloMosaic.Lib.Pointwise
public import Idealize.ShloMosaic.Lib.VecWindow

@[expose] public section

set_option maxRecDepth 16384

noncomputable section

namespace Cert.KernelIdeal.Mesh

open Cert.KernelIdeal Cert.KernelIdeal.Gen Cert.Softmax
open Idealize.ShloMosaic Idealize.ShloMosaic.TcCoe
open scoped BigOperators

/-- The scale of the scores. -/
abbrev scale : EReal := Ideal.ofBits .f32 0x3DB504F3#32

/-- Column `d` of head `n`. -/
def col (n : Fin 8) (d : Fin 128) : Fin 1024 := ⟨n.val * 128 + d.val, by omega⟩

/-- A head: `k` and `v` its keys and values, `q` the queries of all heads. -/
def headMean (n : Fin 8) (q : FVec Ideal S256x1024 .f32) (k v : Vec Ideal S1x4096x128 .f32) (i : Fin 256) (d : Fin 128) : EReal :=
  mean (fun j => ∑ e : Fin 128, k (ix3 0 j e) * (q (ix2 i (col n e)) * scale)) fun j => v (ix3 0 j d)

variable (q : FVec Ideal S256x1024 .f32) (k v : Vec Ideal S1x4096x128 .f32) (i : Fin 256) (d : Fin 128)

/-- Head 0 of the kernel is the mean. -/
theorem head0_mean : k0_pay3 q k v (ix2 i d) = headMean 0 q k v i d := by
  have e : ∀ e, col 0 e = ⟨e.val, by omega⟩ := fun e => Fin.ext (by simp [col])
  simp only [headMean, mean, num, den, e]
  pointwise [k0_pay3]

/-- Head 1 of the kernel is the mean. -/
theorem head1_mean : k0_pay5 (k0_pay4 q) k v (ix2 i d) = headMean 1 q k v i d := by
  have e : ∀ e, col 1 e = ⟨128 + e.val, by omega⟩ := fun e => Fin.ext (by simp [col])
  simp only [headMean, mean, num, den, e]
  pointwise [k0_pay5, k0_pay4]

/-- Head 2 of the kernel is the mean. -/
theorem head2_mean : k0_pay7 (k0_pay6 q k v) (ix2 i d) = headMean 2 q k v i d := by
  have e : ∀ e, col 2 e = ⟨256 + e.val, by omega⟩ := fun e => Fin.ext (by simp [col])
  simp only [headMean, mean, num, den, e]
  pointwise [k0_pay7, k0_pay6]

/-- Head 3 of the kernel is the mean. -/
theorem head3_mean : k0_pay8 q k v (ix2 i d) = headMean 3 q k v i d := by
  have e : ∀ e, col 3 e = ⟨384 + e.val, by omega⟩ := fun e => Fin.ext (by simp [col])
  simp only [headMean, mean, num, den, e]
  pointwise [k0_pay8]

/-- Head 4 of the kernel is the mean. -/
theorem head4_mean : k0_pay11 (k0_pay9 q k) (k0_pay10 q k) v (ix2 i d) = headMean 4 q k v i d := by
  have e : ∀ e, col 4 e = ⟨512 + e.val, by omega⟩ := fun e => Fin.ext (by simp [col])
  simp only [headMean, mean, num, den, e]
  pointwise [k0_pay11, k0_pay9, k0_pay10]

/-- Head 5 of the kernel is the mean. -/
theorem head5_mean : k0_pay12 q k v (ix2 i d) = headMean 5 q k v i d := by
  have e : ∀ e, col 5 e = ⟨640 + e.val, by omega⟩ := fun e => Fin.ext (by simp [col])
  simp only [headMean, mean, num, den, e]
  pointwise [k0_pay12]

/-- Head 6 of the kernel is the mean. -/
theorem head6_mean : k0_pay15 (k0_pay13 q) k0_pay14 k v (ix2 i d) = headMean 6 q k v i d := by
  have e : ∀ e, col 6 e = ⟨768 + e.val, by omega⟩ := fun e => Fin.ext (by simp [col])
  simp only [headMean, mean, num, den, e]
  pointwise [k0_pay15, k0_pay13, k0_pay14]

/-- Head 7 of the kernel is the mean. -/
theorem head7_mean : k0_pay16 q k v (ix2 i d) = headMean 7 q k v i d := by
  have e : ∀ e, col 7 e = ⟨896 + e.val, by omega⟩ := fun e => Fin.ext (by simp [col])
  simp only [headMean, mean, num, den, e]
  pointwise [k0_pay16]

/-! ## The memory a device reads -/

variable (m : (ℓ : Loc nD τ sig) → Buf (Elt Ideal) ℓ) (c : Dev nD)

/-- A whole array read through its one block is itself. -/
theorem xAt_eq : xAt m c = m ((c : Thread nD τ).loc main_arg0) :=
  Memref.read_access_unit_zero (Elt Ideal) main_arg0 (off := fun a => (win0_0.index (0 : Fin 1)) a * main_arg0.ty.shape.size a)
    (funext fun a => by fin_cases a <;> decide) (fun a => by fin_cases a <;> decide) _
/-- So the query weights, -/
theorem wqAt_eq : wqAt m c = m ((c : Thread nD τ).loc main_arg1) :=
  Memref.read_access_unit_zero (Elt Ideal) main_arg1 (off := fun a => (win0_1.index (0 : Fin 1)) a * main_arg1.ty.shape.size a)
    (funext fun a => by fin_cases a <;> decide) (fun a => by fin_cases a <;> decide) _
/-- and the output weights. -/
theorem woAt_eq : woAt m c = m ((c : Thread nD τ).loc main_arg4) :=
  Memref.read_access_unit_zero (Elt Ideal) main_arg4 (off := fun a => (win0_2.index (0 : Fin 1)) a * main_arg4.ty.shape.size a)
    (funext fun a => by fin_cases a <;> decide) (fun a => by fin_cases a <;> decide) _

/-- A load of the whole of a staged array is its contents. -/
theorem load_x (X : (cc0_stg0_0 : Ref sig .tc).ty.Contents (Elt Ideal)) : xM.view.readAt (Elt Ideal) allX.toLoadRect X = X :=
  Memref.readAt_unit_zero (Elt Ideal) cc0_stg0_0 (funext fun a => by fin_cases a <;> rfl) _ X
/-- So for the query weights, -/
theorem load_wq (X : (cc0_stg1_0 : Ref sig .tc).ty.Contents (Elt Ideal)) : wqM.view.readAt (Elt Ideal) allW.toLoadRect X = X :=
  Memref.readAt_unit_zero (Elt Ideal) cc0_stg1_0 (funext fun a => by fin_cases a <;> rfl) _ X
/-- and for the output weights. -/
theorem load_wo (X : (cc0_stg2_0 : Ref sig .tc).ty.Contents (Elt Ideal)) : woM.view.readAt (Elt Ideal) allW.toLoadRect X = X :=
  Memref.readAt_unit_zero (Elt Ideal) cc0_stg2_0 (funext fun a => by fin_cases a <;> rfl) _ X

/-- A matrix read as a slot of the buffer. -/
theorem slab_at (w : S4096x128.Idx → EReal) (j : Fin 4096) : (slab (F := Ideal) w : Vec Ideal S1x4096x128 .f32) (ix3 0 j d) = w (ix2 j d) := by
  have e : (slab (F := Ideal) w : Vec Ideal S1x4096x128 .f32) = shapeCast S1x4096x128 w squeezes_S1x4096x128_S4096x128.numel_eq.symm := by
    funext i; unfold slab; rw [Shape.reshapeEquiv_symm]; rfl
  rw [e]
  pointwise

/-- Head `h` of the keys (values) an array holds. -/
theorem head_at (M : Memref sig .tc .hbm S1x4096x8x128 .f32) (f : M.view.ty.Contents (Elt Ideal)) (h : ℕ)
    (hh : ∀ a : Fin 4, (![0, 0, h, 0] : Fin 4 → ℕ) a + S1x4096x1x128.size a ≤ S1x4096x8x128.size a) (h8 : h < 8) (j : Fin 4096) :
    headOf (F := Ideal) M f h hh (ix2 j d) = M.view.read (Elt Ideal) f (ix4 0 j ⟨h, h8⟩ d) := by
  have e : headOf (F := Ideal) M f h hh = shapeCast S4096x128
      (M.view.readAt (Elt Ideal) (Rect.unit (s := S1x4096x8x128) ![0, 0, h, 0] S1x4096x1x128.size hh).toLoadRect f)
      squeezes_S1x4096x1x128_S4096x128.numel_eq := rfl
  have g : ∀ X : Vec Ideal S1x4096x1x128 .f32, shapeCast S4096x128 X squeezes_S1x4096x1x128_S4096x128.numel_eq (ix2 j d) = X (ix4 0 j 0 d) := by
    intro X; pointwise
  rw [e]
  refine (g _).trans (congrArg (M.view.read (Elt Ideal) f) ?_)
  funext a
  match a with
  | 0 => rfl
  | 1 => exact Fin.ext (by show 0 + 1 * j.val = j.val; omega)
  | 2 => exact Fin.ext (by show h + 1 * 0 = h; omega)
  | 3 => exact Fin.ext (by show 0 + 1 * d.val = d.val; omega)

/-- A device's operands, as the matrices they are: the tokens and the weights of the queries, -/
def tokens : Vec Ideal S1x256x1024 .f32 := m ((c : Thread nD τ).loc main_arg0)
/-- the weights of the queries, -/
def wq : Vec Ideal S1024x1024 .f32 := m ((c : Thread nD τ).loc main_arg1)
/-- its heads' keys and values, and its block of the output weights. -/
def keys : Vec Ideal S1x4096x8x128 .f32 := m ((c : Thread nD τ).loc main_arg2)
/-- their values, -/
def vals : Vec Ideal S1x4096x8x128 .f32 := m ((c : Thread nD τ).loc main_arg3)
/-- and its block of the output weights. -/
def wo : Vec Ideal S1024x1024 .f32 := m ((c : Thread nD τ).loc main_arg4)

/-- A key of head `h`, -/
theorem k_at (h : ℕ) (hh) (h8 : h < 8) (j : Fin 4096) : kIn m c h hh (ix3 0 j d) = keys m c (ix4 0 j ⟨h, h8⟩ d) :=
  (slab_at d _ j).trans (head_at d _ _ h hh h8 j)
/-- and a value. -/
theorem v_at (h : ℕ) (hh) (h8 : h < 8) (j : Fin 4096) : vIn m c h hh (ix3 0 j d) = vals m c (ix4 0 j ⟨h, h8⟩ d) :=
  (slab_at d _ j).trans (head_at d _ _ h hh h8 j)

/-- The queries: the tokens times the weights. -/
theorem q_at (n : Fin 1024) : qAt m c (ix2 i n) = ∑ k : Fin 1024, tokens m c (ix3 0 i k) * wq m c (ix2 k n) := by
  have e : qAt m c = k0_pay2 (tokens m c) (wq m c) := by
    unfold qAt; rw [load_x, load_wq, xAt_eq, wqAt_eq]; rfl
  rw [e]
  generalize tokens m c = x
  generalize wq m c = w
  pointwise [k0_pay2]

/-! ## The heads side by side -/

/-- What a device's head `n` is, of the memory. -/
def headAt (n : Fin 8) : EReal :=
  mean (fun j : Fin 4096 => ∑ e : Fin 128, keys m c (ix4 0 j n e) * (qAt m c (ix2 i (col n e)) * scale)) fun j => vals m c (ix4 0 j n d)

/-- A mean over the slots is the mean over the memory. -/
theorem headMean_at (n : Fin 8) (hk hv) : headMean n (qAt m c) (kIn m c n.val hk) (vIn m c n.val hv) i d = headAt i d m c n := by
  unfold headMean headAt
  simp only [k_at _ m c _ _ n.isLt, v_at _ m c _ _ n.isLt]

/-- Head 0, of the memory. -/
theorem piece0 : head0 m c (ix2 i d) = headAt i d m c 0 := (head0_mean _ _ _ i d).trans (headMean_at i d m c 0 _ _)
/-- Head 1, of the memory. -/
theorem piece1 : head1 m c (ix2 i d) = headAt i d m c 1 := (head1_mean _ _ _ i d).trans (headMean_at i d m c 1 _ _)
/-- Head 2, of the memory. -/
theorem piece2 : head2 m c (ix2 i d) = headAt i d m c 2 := (head2_mean _ _ _ i d).trans (headMean_at i d m c 2 _ _)
/-- Head 3, of the memory. -/
theorem piece3 : head3 m c (ix2 i d) = headAt i d m c 3 := (head3_mean _ _ _ i d).trans (headMean_at i d m c 3 _ _)
/-- Head 4, of the memory. -/
theorem piece4 : head4 m c (ix2 i d) = headAt i d m c 4 := (head4_mean _ _ _ i d).trans (headMean_at i d m c 4 _ _)
/-- Head 5, of the memory. -/
theorem piece5 : head5 m c (ix2 i d) = headAt i d m c 5 := (head5_mean _ _ _ i d).trans (headMean_at i d m c 5 _ _)
/-- Head 6, of the memory. -/
theorem piece6 : head6 m c (ix2 i d) = headAt i d m c 6 := (head6_mean _ _ _ i d).trans (headMean_at i d m c 6 _ _)
/-- Head 7, of the memory. -/
theorem piece7 : head7 m c (ix2 i d) = headAt i d m c 7 := (head7_mean _ _ _ i d).trans (headMean_at i d m c 7 _ _)

/-- A load of the whole attended matrix reads what its pieces left. -/
theorem load_attn (L : List (View.Piece (Elt Ideal) S256x1024 .bf16)) (y : S256x1024.Idx) :
    attnM.view.readCov L allA.toLoadRect y = attnM.view.read (Elt Ideal) (attnM.view.writes (Elt Ideal) attnM.view.junk L) y := by
  have e : allA.toLoadRect.idx y = y := funext fun a => Fin.ext (by
    show (![0, 0] : Fin 2 → ℕ) a + 1 * (y a).val = (y a).val
    match a with
    | 0 => show 0 + 1 * _ = _; omega
    | 1 => show 0 + 1 * _ = _; omega)
  show attnM.view.read (Elt Ideal) (attnM.view.writes (Elt Ideal) attnM.view.junk L) (allA.toLoadRect.idx y) = _
  rw [e]

/-- A column right of the newest block of columns is not in it; -/
theorem skip_piece {o : ℕ} (inb) (w) (L : List (View.Piece (Elt Ideal) S256x1024 .bf16)) (f) (n : Fin 8) (h : n.val * 128 + 128 ≤ o) :
    attnM.view.read (Elt Ideal) (attnM.view.writes (Elt Ideal) f (⟨Rect.unit (s := S256x1024) ![0, o] S256x128.size inb, w⟩ :: L)) (ix2 i (col n d))
      = attnM.view.read (Elt Ideal) (attnM.view.writes (Elt Ideal) f L) (ix2 i (col n d)) :=
  View.read_writes_cons_unit_of_not_mem attnM.view f inb w L _ rfl 1 (Or.inl (by
    show n.val * 128 + d.val < o
    have := d.isLt
    omega))

/-- a column of the newest block reads it. -/
theorem hit_piece {o : ℕ} (inb) (w : S256x128.Idx → EReal) (L : List (View.Piece (Elt Ideal) S256x1024 .bf16)) (f) (n : Fin 8) (h : n.val * 128 = o) :
    attnM.view.read (Elt Ideal) (attnM.view.writes (Elt Ideal) f (⟨Rect.unit (s := S256x1024) ![0, o] S256x128.size inb, w⟩ :: L)) (ix2 i (col n d))
      = w (ix2 i d) :=
  View.read_writes_cons_unit_of_mem attnM.view f inb w L _ (ix2 i d) rfl fun a => by
    match a with
    | 0 => show i.val = 0 + i.val; omega
    | 1 => show n.val * 128 + d.val = o + d.val; omega

/-- The attended matrix holds head `n` at its columns. -/
theorem attn_at (n : Fin 8) : attnAt m c (ix2 i (col n d)) = headAt i d m c n := by
  refine (load_attn _ _).trans ?_
  unfold attnPieces
  fin_cases n
  all_goals
    repeat rw [skip_piece _ _ _ _ _ _ _ (by decide)]
    refine (hit_piece _ _ _ _ _ _ _ (by decide)).trans ?_
  · exact piece0 i d m c
  · exact piece1 i d m c
  · exact piece2 i d m c
  · exact piece3 i d m c
  · exact piece4 i d m c
  · exact piece5 i d m c
  · exact piece6 i d m c
  · exact piece7 i d m c

/-! ## A device's part, and the sum of the four -/

/-- A device's part of the result: its heads times its block of the output weights. -/
def part (e : Fin 1024) : EReal := ∑ n : Fin 8, ∑ d : Fin 128, headAt i d m c n * wo m c (ix2 (col n d) e)

/-- That is what the kernel's product computes. -/
theorem part_at (e : Fin 1024) : partAt m c (ix3 0 i e) = part i m c e := by
  have h : partAt m c = k0_pay17 (wo m c) (attnAt m c) := by
    unfold partAt; rw [load_wo, woAt_eq]; rfl
  have g : ∀ (w : Vec Ideal S1024x1024 .f32) (x : Vec Ideal S256x1024 .bf16),
      k0_pay17 w x (ix3 0 i e) = ∑ n : Fin 1024, x (ix2 i n) * w (ix2 n e) := by
    intro w x; pointwise [k0_pay17]
  rw [h, g, sum_blocks 8 128 1024 rfl]
  refine Finset.sum_congr rfl fun n _ => Finset.sum_congr rfl fun d _ => ?_
  exact congrArg (· * _) (attn_at i d m c n)

/-- After the two exchanges every device holds the sum of the four parts. -/
theorem out_at (e : Fin 1024) : outAt m c (ix3 0 i e) = ∑ b : Fin 4, part i m b e := by
  have g1 : ∀ (x : FVec Ideal S1x256x1024 .f32) (y : FVec Ideal S1x256x1024 .f32),
      k0_pay19 x (k0_pay18 y) (ix3 0 i e) = x (ix3 0 i e) + y (ix3 0 i e) := by
    intro x y; pointwise [k0_pay19, k0_pay18]
  have g2 : ∀ (x : FVec Ideal S1x256x1024 .f32) (y : FVec Ideal S1x256x1024 .f32),
      k0_pay1 (k0_pay21 x) (k0_pay20 y) (ix3 0 i e) = x (ix3 0 i e) + y (ix3 0 i e) := by
    intro x y; pointwise [k0_pay1, k0_pay21, k0_pay20]
  have s : ∀ c, sum1 m c (ix3 0 i e) = part i m c e + part i m (near c) e := fun c =>
    (g1 _ _).trans (congrArg₂ (· + ·) (part_at i m c e) (part_at i m (near c) e))
  refine (g2 _ _).trans ?_
  rw [s, s, Fin.sum_univ_four]
  have hc : c = 0 ∨ c = 1 ∨ c = 2 ∨ c = 3 := by revert c; decide
  rcases hc with rfl | rfl | rfl | rfl
  · show part i m 0 e + part i m 1 e + (part i m 2 e + part i m 3 e) = _
    ac_rfl
  · show part i m 1 e + part i m 0 e + (part i m 3 e + part i m 2 e) = _
    ac_rfl
  · show part i m 2 e + part i m 3 e + (part i m 0 e + part i m 1 e) = _
    ac_rfl
  · show part i m 3 e + part i m 2 e + (part i m 1 e + part i m 0 e) = _
    ac_rfl

end Cert.KernelIdeal.Mesh

end
-- ==== Proof.Online.lean ====
/-
The reference's result, cut into the steps of its text: the queries, the scores of a chunk of keys, and what a chunk
does to the running maximum, the running denominator and the running numerator.
-/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ReferenceIdeal.Online

open Cert.ReferenceIdeal Cert.ReferenceIdeal.Gen
open Idealize.ShloMosaic Idealize.ShloMosaic.TcCoe

variable {F : FTy → Type} [FloatOps F]

/-! ## The steps -/

/-- The queries, split into heads. -/
def queries (x : FVec F S1x256x1024 .f32) (w : FVec F S1024x4096 .f32) : FVec F S1x256x32x128 .f32 :=
  shapeCast S1x256x32x128 (Host.dotGeneral dot_S1x256x1024_S1024x4096_S1x256x4096_2_0_01_1_n_n none x w)
    shapeCasts_S1x256x4096_S1x256x32x128

/-- A chunk of 1024 keys (values). -/
def chunk (off : Fin 4 → ℕ) (h : S1x4096x32x128.Slices off S1x1024x32x128) (k : FVec F S1x4096x32x128 .f32) : FVec F S1x1024x32x128 .f32 :=
  extractStridedSlice S1x1024x32x128 off k h

/-- The scaled scores of a chunk. -/
def scores (q : FVec F S1x256x32x128 .f32) (k : FVec F S1x1024x32x128 .f32) : FVec F S1x32x256x1024 .f32 :=
  mulf (Host.dotGeneral dot_S1x256x32x128_S1x1024x32x128_S1x32x256x1024_3_3_1_1_02_02 none q k)
    (broadcastInDim S1x32x256x1024 ![] bcast_S_S1x32x256x1024 (constant S_ .f32 0x3DB504F3#32))

/-- The running maximum after a chunk, -/
def top (t : FVec F S1x32x256x1 .f32) (s : FVec F S1x32x256x1024 .f32) : FVec F S1x32x256x1 .f32 :=
  maximumf t (broadcastInDim S1x32x256x1 ![0, 1, 2] bcast_S1x32x256_S1x32x256x1_0_1_2
    (Host.reduce FloatOps.maximumf s (constant S_ .f32 0xFF800000#32) reducesTo_S1x32x256x1024_S1x32x256_d3 h_S_))

/-- the factor that takes the old maximum to the new one, -/
def factor (t t' : FVec F S1x32x256x1 .f32) : FVec F S1x32x256x1 .f32 := Host.exp (subf t t')

/-- the weights of the chunk, -/
def weights (s : FVec F S1x32x256x1024 .f32) (t' : FVec F S1x32x256x1 .f32) : FVec F S1x32x256x1024 .f32 :=
  Host.exp (subf s (broadcastInDim S1x32x256x1024 ![0, 1, 2, 3] bcast_S1x32x256x1_S1x32x256x1024_0_1_2_3 t'))

/-- the running denominator, -/
def denom (l a : FVec F S1x32x256x1 .f32) (p : FVec F S1x32x256x1024 .f32) : FVec F S1x32x256x1 .f32 :=
  addf (mulf l a) (broadcastInDim S1x32x256x1 ![0, 1, 2] bcast_S1x32x256_S1x32x256x1_0_1_2
    (Host.reduceAdd p (constant S_ .f32 0x00000000#32) reducesTo_S1x32x256x1024_S1x32x256_d3 h_S_))

/-- and the running numerator. -/
def numer (o : FVec F S1x256x32x128 .f32) (a : FVec F S1x32x256x1 .f32) (v : FVec F S1x1024x32x128 .f32)
    (p : FVec F S1x32x256x1024 .f32) : FVec F S1x256x32x128 .f32 :=
  addf (mulf o (broadcastInDim S1x256x32x128 ![0, 1, 2, 3] bcast_S1x256x32x1_S1x256x32x128_0_1_2_3
      (transpose S1x256x32x1 [0, 2, 1, 3] a transposes_S1x32x256x1_S1x256x32x1_0_2_1_3)))
    (transpose S1x256x32x128 [0, 3, 1, 2]
      (Host.dotGeneral dot_S1x1024x32x128_S1x32x256x1024_S1x32x128x256_1_3_3_2_02_01 none v p)
      transposes_S1x32x128x256_S1x256x32x128_0_3_1_2)

/-- What is carried from chunk to chunk. -/
structure Carried (F : FTy → Type) where
  top : FVec F S1x32x256x1 .f32
  den : FVec F S1x32x256x1 .f32
  num : FVec F S1x256x32x128 .f32

/-- Before the first chunk. -/
def start : Carried F :=
  ⟨broadcastInDim S1x32x256x1 ![] bcast_S_S1x32x256x1 (constant S_ .f32 0xFF800000#32),
    broadcastInDim S1x32x256x1 ![] bcast_S_S1x32x256x1 (constant S_ .f32 0x00000000#32),
    broadcastInDim S1x256x32x128 ![] bcast_S_S1x256x32x128 (constant S_ .f32 0x00000000#32)⟩

/-- One chunk, of scores `s` and values `v`. -/
def step (r : Carried F) (s : FVec F S1x32x256x1024 .f32) (v : FVec F S1x1024x32x128 .f32) : Carried F :=
  ⟨top r.top s, denom r.den (factor r.top (top r.top s)) (weights s (top r.top s)),
    numer r.num (factor r.top (top r.top s)) v (weights s (top r.top s))⟩

/-- The four chunks. -/
def four (q : FVec F S1x256x32x128 .f32) (k v : FVec F S1x4096x32x128 .f32) : Carried F :=
  step (step (step (step start
    (scores q (chunk ![0, 0, 0, 0] slices_S1x4096x32x128_S1x1024x32x128_0_0_0_0 k)) (chunk ![0, 0, 0, 0] slices_S1x4096x32x128_S1x1024x32x128_0_0_0_0 v))
    (scores q (chunk ![0, 1024, 0, 0] slices_S1x4096x32x128_S1x1024x32x128_0_1024_0_0 k)) (chunk ![0, 1024, 0, 0] slices_S1x4096x32x128_S1x1024x32x128_0_1024_0_0 v))
    (scores q (chunk ![0, 2048, 0, 0] slices_S1x4096x32x128_S1x1024x32x128_0_2048_0_0 k)) (chunk ![0, 2048, 0, 0] slices_S1x4096x32x128_S1x1024x32x128_0_2048_0_0 v))
    (scores q (chunk ![0, 3072, 0, 0] slices_S1x4096x32x128_S1x1024x32x128_0_3072_0_0 k)) (chunk ![0, 3072, 0, 0] slices_S1x4096x32x128_S1x1024x32x128_0_3072_0_0 v)

/-- The normalised heads side by side. -/
def attended (r : Carried F) : FVec F S1x256x4096 .f32 :=
  shapeCast S1x256x4096 (Host.divf r.num (broadcastInDim S1x256x32x128 ![0, 1, 2, 3] bcast_S1x256x32x1_S1x256x32x128_0_1_2_3
    (transpose S1x256x32x1 [0, 2, 1, 3] r.den transposes_S1x32x256x1_S1x256x32x1_0_2_1_3))) shapeCasts_S1x256x32x128_S1x256x4096

/-- The reference's result. -/
def result (x : FVec F S1x256x1024 .f32) (w : FVec F S1024x4096 .f32) (k v : FVec F S1x4096x32x128 .f32)
    (o : FVec F S4096x1024 .f32) : FVec F S1x256x1024 .f32 :=
  Host.dotGeneral dot_S1x256x4096_S4096x1024_S1x256x1024_2_0_01_1_n_n none (attended (four (queries x w) k v)) o

/-- The composed term of the run is that. -/
theorem run_result (m : (ℓ : Loc nD τ sig) → Buf (Elt F) ℓ) (c : Dev nD) :
    Value.res_main_v101 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  delta Value.res_main_v101
  rfl

end Cert.ReferenceIdeal.Online

end
-- ==== Proof.RefValue.lean ====
/-
The reference's result over the extended reals, where the queries' arguments and the keys are real: each head is the mean
of the values under the exponentials of its scores, and the result their product with the output weights.
-/
module

public import proofs.«01_k».proof.Proof.Online
public import proofs.«01_k».proof.Proof.Softmax

@[expose] public section

set_option maxRecDepth 16384

noncomputable section

namespace Cert.ReferenceIdeal.Online

open Cert.ReferenceIdeal Cert.ReferenceIdeal.Gen Cert.Softmax
open Idealize.ShloMosaic Idealize.ShloMosaic.TcCoe
open scoped BigOperators

/-! ## The constants -/

/-- The word of minus infinity. -/
theorem bits_bot : Ideal.ofBits .f32 0xFF800000#32 = ⊥ := by simp [Ideal.ofBits, Ideal.ieee]

/-- The scale of the scores. -/
abbrev scale : EReal := Ideal.ofBits .f32 0x3DB504F3#32

/-- The scale is real. -/
theorem scale_real : IsReal scale := by
  show IsReal (Ideal.ieee 8 23 (0x3DB504F3#32))
  unfold Ideal.ieee
  simp only []
  rw [if_neg (by decide), if_neg (by decide)]
  exact ⟨_, rfl⟩

/-! ## The steps at an index -/

/-- A query: a row of the tokens times a column of the weights, heads counted in 128 columns. -/
theorem queries_at (x : FVec Ideal S1x256x1024 .f32) (w : FVec Ideal S1024x4096 .f32) (i : Fin 256) (h : Fin 32) (d : Fin 128) :
    queries x w (ix4 0 i h d) = ∑ k : Fin 1024, x (ix3 0 i k) * w (ix2 k ⟨h.val * 128 + d.val, by omega⟩) := by
  pointwise [queries]

/-- A score within a chunk. -/
theorem scores_at (q : FVec Ideal S1x256x32x128 .f32) (k : FVec Ideal S1x1024x32x128 .f32) (h : Fin 32) (i : Fin 256) (j : Fin 1024) :
    scores q k (ix4 0 h i j) = (∑ d : Fin 128, q (ix4 0 i h d) * k (ix4 0 j h d)) * scale := by
  pointwise [scores]

/-- The factor of a rescaling. -/
theorem factor_at (t t' : FVec Ideal S1x32x256x1 .f32) (h : Fin 32) (i : Fin 256) :
    factor t t' (ix4 0 h i 0) = Ideal.exp (t (ix4 0 h i 0) - t' (ix4 0 h i 0)) := by
  pointwise [factor]

/-- A weight within a chunk. -/
theorem weights_at (s : FVec Ideal S1x32x256x1024 .f32) (t' : FVec Ideal S1x32x256x1 .f32) (h : Fin 32) (i : Fin 256) (j : Fin 1024) :
    weights s t' (ix4 0 h i j) = Ideal.exp (s (ix4 0 h i j) - t' (ix4 0 h i 0)) := by
  pointwise [weights]

/-- The carried denominator after a step, -/
theorem denom_at (l a : FVec Ideal S1x32x256x1 .f32) (p : FVec Ideal S1x32x256x1024 .f32) (h : Fin 32) (i : Fin 256) :
    denom l a p (ix4 0 h i 0) = l (ix4 0 h i 0) * a (ix4 0 h i 0) + ∑ j : Fin 1024, p (ix4 0 h i j) := by
  pointwise [denom]

/-- and the carried numerator. -/
theorem numer_at (o : FVec Ideal S1x256x32x128 .f32) (a : FVec Ideal S1x32x256x1 .f32) (v : FVec Ideal S1x1024x32x128 .f32)
    (p : FVec Ideal S1x32x256x1024 .f32) (i : Fin 256) (h : Fin 32) (d : Fin 128) :
    numer o a v p (ix4 0 i h d) = o (ix4 0 i h d) * a (ix4 0 h i 0) + ∑ j : Fin 1024, v (ix4 0 j h d) * p (ix4 0 h i j) := by
  pointwise [numer]

/-- The quotient, its heads side by side. -/
theorem attended_at (r : Carried Ideal) (i : Fin 256) (n : Fin 4096) :
    attended r (ix3 0 i n) = Ideal.div (r.num (ix4 0 i ⟨n.val / 128, by omega⟩ ⟨n.val % 128, by omega⟩))
      (r.den (ix4 0 ⟨n.val / 128, by omega⟩ i 0)) := by
  pointwise [attended]

/-- The product with the output weights. -/
theorem result_at (x : FVec Ideal S1x256x1024 .f32) (w : FVec Ideal S1024x4096 .f32) (k v : FVec Ideal S1x4096x32x128 .f32)
    (o : FVec Ideal S4096x1024 .f32) (i : Fin 256) (e : Fin 1024) :
    result x w k v o (ix3 0 i e) = ∑ n : Fin 4096, attended (four (queries x w) k v) (ix3 0 i n) * o (ix2 n e) := by
  pointwise [result]

/-- Row `j` of chunk `c`. -/
def pos (c : Fin 4) (j : Fin 1024) : Fin 4096 := ⟨c.val * 1024 + j.val, by omega⟩

/-- The first chunk's rows, of the whole; -/
theorem chunk0_at (k : FVec Ideal S1x4096x32x128 .f32) (j : Fin 1024) (h : Fin 32) (d : Fin 128) :
    chunk ![0, 0, 0, 0] slices_S1x4096x32x128_S1x1024x32x128_0_0_0_0 k (ix4 0 j h d) = k (ix4 0 (pos 0 j) h d) := by
  have e : pos 0 j = ⟨j.val, by omega⟩ := Fin.ext (by simp [pos])
  rw [e]
  pointwise [chunk]

/-- the second's, -/
theorem chunk1_at (k : FVec Ideal S1x4096x32x128 .f32) (j : Fin 1024) (h : Fin 32) (d : Fin 128) :
    chunk ![0, 1024, 0, 0] slices_S1x4096x32x128_S1x1024x32x128_0_1024_0_0 k (ix4 0 j h d) = k (ix4 0 (pos 1 j) h d) := by
  have e : pos 1 j = ⟨1024 + j.val, by omega⟩ := Fin.ext (by simp [pos])
  rw [e]
  pointwise [chunk]

/-- the third's, -/
theorem chunk2_at (k : FVec Ideal S1x4096x32x128 .f32) (j : Fin 1024) (h : Fin 32) (d : Fin 128) :
    chunk ![0, 2048, 0, 0] slices_S1x4096x32x128_S1x1024x32x128_0_2048_0_0 k (ix4 0 j h d) = k (ix4 0 (pos 2 j) h d) := by
  have e : pos 2 j = ⟨2048 + j.val, by omega⟩ := Fin.ext (by simp [pos])
  rw [e]
  pointwise [chunk]

/-- the fourth's. -/
theorem chunk3_at (k : FVec Ideal S1x4096x32x128 .f32) (j : Fin 1024) (h : Fin 32) (d : Fin 128) :
    chunk ![0, 3072, 0, 0] slices_S1x4096x32x128_S1x1024x32x128_0_3072_0_0 k (ix4 0 j h d) = k (ix4 0 (pos 3 j) h d) := by
  have e : pos 3 j = ⟨3072 + j.val, by omega⟩ := Fin.ext (by simp [pos])
  rw [e]
  pointwise [chunk]

/-- A row's maximum, kept as a column. -/
theorem column_at (g : FVec Ideal S1x32x256 .f32) (h : Fin 32) (i : Fin 256) :
    broadcastInDim S1x32x256x1 ![0, 1, 2] bcast_S1x32x256_S1x32x256x1_0_1_2 g (ix4 0 h i 0) = g (ix3 0 h i) := by
  pointwise

/-- The maximum is over the last axis. -/
theorem drops_last : S1x32x256x1024.Reduces [3] S1x32x256 := by decide

/-- The greatest score of a row of a chunk. -/
theorem greatest_at (s : FVec Ideal S1x32x256x1024 .f32) (init : FVec Ideal S_ .f32) (h : Fin 32) (i : Fin 256) :
    Host.reduce FloatOps.maximumf s init reducesTo_S1x32x256x1024_S1x32x256_d3 h_S_ (ix3 0 h i)
      = (Finset.univ : Finset (Fin 1024)).fold max (init (Shape.Idx.first h_S_)) fun j => s (ix4 0 h i j) := by
  refine (Host.reduce_eq_fold_single (max : EReal → EReal → EReal) s init _ drops_last h_S_ _).trans ?_
  refine congrArg (fun f => (Finset.univ : Finset (Fin 1024)).fold max (init (Shape.Idx.first h_S_)) f) (funext fun j => congrArg s ?_)
  funext a
  match a with
  | 0 => rfl
  | 1 => rfl
  | 2 => rfl
  | 3 => rfl

/-- The new maximum is the greater of the old one and the chunk's. -/
theorem top_at (t : FVec Ideal S1x32x256x1 .f32) (s : FVec Ideal S1x32x256x1024 .f32) (h : Fin 32) (i : Fin 256) :
    top t s (ix4 0 h i 0) = max (t (ix4 0 h i 0)) ((Finset.univ : Finset (Fin 1024)).fold max ⊥ fun j => s (ix4 0 h i j)) := by
  have e := column_at (Host.reduce FloatOps.maximumf s (constant S_ .f32 0xFF800000#32) reducesTo_S1x32x256x1024_S1x32x256_d3 h_S_) h i
  rw [greatest_at] at e
  rw [← bits_bot]
  exact congrArg (max (t (ix4 0 h i 0))) e

/-! ## The chunks -/

/-- Before the first chunk: no maximum, nothing summed. -/
theorem start_top (h : Fin 32) (i : Fin 256) : (start (F := Ideal)).top (ix4 0 h i 0) = ⊥ := by
  rw [← bits_bot]; pointwise [start]
/-- the denominator is 0, -/
theorem start_den (h : Fin 32) (i : Fin 256) : (start (F := Ideal)).den (ix4 0 h i 0) = 0 := by
  pointwise [start]
/-- and the numerator is 0. -/
theorem start_num (i : Fin 256) (h : Fin 32) (d : Fin 128) : (start (F := Ideal)).num (ix4 0 i h d) = 0 := by
  pointwise [start]

variable {s : FVec Ideal S1x32x256x1024 .f32} {h : Fin 32} {i : Fin 256}

/-- A row's new maximum is real, -/
theorem greatest_real (hs : ∀ j, IsReal (s (ix4 0 h i j))) :
    IsReal ((Finset.univ : Finset (Fin 1024)).fold max ⊥ fun j => s (ix4 0 h i j)) := IsReal.fold_max hs

/-- One chunk, read at a row of a head. -/
theorem step_at (r : Carried Ideal) (v : FVec Ideal S1x1024x32x128 .f32) (d : Fin 128) :
    (step r s v).den (ix4 0 h i 0)
      = r.den (ix4 0 h i 0) * Ideal.exp (r.top (ix4 0 h i 0) - (step r s v).top (ix4 0 h i 0))
        + ∑ j : Fin 1024, Ideal.exp (s (ix4 0 h i j) - (step r s v).top (ix4 0 h i 0))
    ∧ (step r s v).num (ix4 0 i h d)
      = r.num (ix4 0 i h d) * Ideal.exp (r.top (ix4 0 h i 0) - (step r s v).top (ix4 0 h i 0))
        + ∑ j : Fin 1024, v (ix4 0 j h d) * Ideal.exp (s (ix4 0 h i j) - (step r s v).top (ix4 0 h i 0)) := by
  constructor
  · show denom _ _ _ _ = _
    rw [denom_at, factor_at]
    exact congrArg _ (Finset.sum_congr rfl fun j _ => weights_at _ _ _ _ _)
  · show numer _ _ _ _ _ = _
    rw [numer_at, factor_at]
    exact congrArg _ (Finset.sum_congr rfl fun j _ => congrArg _ (weights_at _ _ _ _ _))

/-- After the first chunk the carried sums are those of that chunk; -/
theorem first_holds (v : FVec Ideal S1x1024x32x128 .f32) (d : Fin 128) (hs : ∀ j, IsReal (s (ix4 0 h i j))) :
    Holds ((step start s v).top (ix4 0 h i 0)) ((step start s v).den (ix4 0 h i 0)) ((step start s v).num (ix4 0 i h d))
      (den fun j => s (ix4 0 h i j)) (num (fun j => s (ix4 0 h i j)) fun j => v (ix4 0 j h d)) := by
  have ht : IsReal ((step start s v).top (ix4 0 h i 0)) := by
    show IsReal (top (F := Ideal) _ _ _)
    rw [top_at, start_top, max_bot_left]
    exact greatest_real hs
  rw [(step_at start v d).1, (step_at start v d).2, start_top, start_den, start_num]
  exact Holds.first hs ht

/-- each further chunk adds its own. -/
theorem next_holds {r : Carried Ideal} {L A : EReal} (v : FVec Ideal S1x1024x32x128 .f32) (d : Fin 128)
    (hr : Holds (r.top (ix4 0 h i 0)) (r.den (ix4 0 h i 0)) (r.num (ix4 0 i h d)) L A) (hs : ∀ j, IsReal (s (ix4 0 h i j))) :
    Holds ((step r s v).top (ix4 0 h i 0)) ((step r s v).den (ix4 0 h i 0)) ((step r s v).num (ix4 0 i h d))
      (L + den fun j => s (ix4 0 h i j)) (A + num (fun j => s (ix4 0 h i j)) fun j => v (ix4 0 j h d)) := by
  have ht : IsReal ((step r s v).top (ix4 0 h i 0)) := by
    show IsReal (top (F := Ideal) _ _ _)
    rw [top_at]
    obtain ⟨t, _, e, _⟩ := hr.ex
    exact IsReal.sup ⟨t, e⟩ (greatest_real hs)
  rw [(step_at r v d).1, (step_at r v d).2]
  exact hr.next hs ht

/-! ## The heads -/

/-- The score of row `j` for query `i` of head `h`. -/
def score (q : FVec Ideal S1x256x32x128 .f32) (k : FVec Ideal S1x4096x32x128 .f32) (h : Fin 32) (i : Fin 256) (j : Fin 4096) : EReal :=
  (∑ d : Fin 128, q (ix4 0 i h d) * k (ix4 0 j h d)) * scale

/-- A sum over the rows is the sum of the four chunks'. -/
theorem sum_rows (f : Fin 4096 → EReal) :
    ∑ j, f j = (((∑ j, f (pos 0 j)) + ∑ j, f (pos 1 j)) + ∑ j, f (pos 2 j)) + ∑ j, f (pos 3 j) := by
  rw [sum_blocks 4 1024 4096 (by decide), Fin.sum_univ_four]
  rfl

/-- A head of the reference is a mean of its values. -/
theorem heads_at (q : FVec Ideal S1x256x32x128 .f32) (k v : FVec Ideal S1x4096x32x128 .f32) (h : Fin 32) (i : Fin 256) (d : Fin 128)
    (hq : ∀ d, IsReal (q (ix4 0 i h d))) (hk : ∀ j d, IsReal (k (ix4 0 j h d))) :
    Ideal.div ((four q k v).num (ix4 0 i h d)) ((four q k v).den (ix4 0 h i 0))
      = mean (score q k h i) fun j => v (ix4 0 j h d) := by
  have hs : ∀ j, IsReal (score q k h i j) := fun j => (IsReal.sum fun d _ => (hq d).mul (hk j d)).mul scale_real
  have e0 : ∀ j, scores q (chunk ![0, 0, 0, 0] slices_S1x4096x32x128_S1x1024x32x128_0_0_0_0 k) (ix4 0 h i j) = score q k h i (pos 0 j) :=
    fun j => by rw [scores_at]; simp only [chunk0_at]; rfl
  have e1 : ∀ j, scores q (chunk ![0, 1024, 0, 0] slices_S1x4096x32x128_S1x1024x32x128_0_1024_0_0 k) (ix4 0 h i j) = score q k h i (pos 1 j) :=
    fun j => by rw [scores_at]; simp only [chunk1_at]; rfl
  have e2 : ∀ j, scores q (chunk ![0, 2048, 0, 0] slices_S1x4096x32x128_S1x1024x32x128_0_2048_0_0 k) (ix4 0 h i j) = score q k h i (pos 2 j) :=
    fun j => by rw [scores_at]; simp only [chunk2_at]; rfl
  have e3 : ∀ j, scores q (chunk ![0, 3072, 0, 0] slices_S1x4096x32x128_S1x1024x32x128_0_3072_0_0 k) (ix4 0 h i j) = score q k h i (pos 3 j) :=
    fun j => by rw [scores_at]; simp only [chunk3_at]; rfl
  have H := next_holds (chunk ![0, 3072, 0, 0] slices_S1x4096x32x128_S1x1024x32x128_0_3072_0_0 v) d
    (next_holds (chunk ![0, 2048, 0, 0] slices_S1x4096x32x128_S1x1024x32x128_0_2048_0_0 v) d
      (next_holds (chunk ![0, 1024, 0, 0] slices_S1x4096x32x128_S1x1024x32x128_0_1024_0_0 v) d
        (first_holds (chunk ![0, 0, 0, 0] slices_S1x4096x32x128_S1x1024x32x128_0_0_0_0 v) d (fun j => (e0 j).symm ▸ hs _))
        (fun j => (e1 j).symm ▸ hs _)) (fun j => (e2 j).symm ▸ hs _)) (fun j => (e3 j).symm ▸ hs _)
  refine H.div.trans ?_
  simp only [e0, e1, e2, e3, chunk0_at, chunk1_at, chunk2_at, chunk3_at]
  exact congrArg₂ Ideal.div (sum_rows fun j => Ideal.exp (score q k h i j) * v (ix4 0 j h d)).symm
    (sum_rows fun j => Ideal.exp (score q k h i j)).symm

/-- The reference's result. -/
theorem result_value (x : FVec Ideal S1x256x1024 .f32) (w : FVec Ideal S1024x4096 .f32) (k v : FVec Ideal S1x4096x32x128 .f32)
    (o : FVec Ideal S4096x1024 .f32) (hx : ∀ i, IsReal (x i)) (hw : ∀ i, IsReal (w i)) (hk : ∀ i, IsReal (k i)) (i : Fin 256) (e : Fin 1024) :
    result x w k v o (ix3 0 i e) = ∑ h : Fin 32, ∑ d : Fin 128,
      mean (score (queries x w) k h i) (fun j => v (ix4 0 j h d)) * o (ix2 ⟨h.val * 128 + d.val, by omega⟩ e) := by
  rw [result_at, sum_blocks 32 128 4096 (by decide)]
  refine Finset.sum_congr rfl fun h _ => Finset.sum_congr rfl fun d _ => ?_
  rw [attended_at]
  have eh : (⟨(h.val * 128 + d.val) / 128, by omega⟩ : Fin 32) = h := Fin.ext (by show _ / _ = _; omega)
  have ed : (⟨(h.val * 128 + d.val) % 128, by omega⟩ : Fin 128) = d := Fin.ext (by show _ % _ = _; omega)
  simp only [eh, ed]
  rw [heads_at]
  · exact fun d => by rw [queries_at]; exact IsReal.sum fun n _ => (hx _).mul (hw _)
  · exact fun j d => hk _

end Cert.ReferenceIdeal.Online

end
-- ==== Proof.Algebraic.lean ====
/-
The kernel on four devices computes the reference over the extended reals: device `c` holds heads `8c` to `8c + 7`, and the
sum of the four devices' parts is the product of all heads with the output weights.
-/
module

public import proofs.«01_k».proof.Defs
public import proofs.«01_k».proof.Proof.Finite
public import proofs.«01_k».proof.Proof.KerValue
public import proofs.«01_k».proof.Proof.RefValue
public import proofs.«01_k».proof.Proof.Launch
public import proofs.«01_k».proof.Proof.Gen.ReferenceIdeal.Run

@[expose] public section

set_option maxRecDepth 16384

noncomputable section

namespace Cert.Proof

open Idealize.ShloMosaic Idealize.SL.Sem Cert.Softmax
open Cert.KernelIdeal.Mesh (col part headAt)
open Cert.ReferenceIdeal.Online (queries score)
open scoped BigOperators

/-! ## The blocks a device holds -/

/-- Head `n` of device `c`, among all heads; -/
def headOn (c : Fin 4) (n : Fin 8) : Fin 32 := ⟨c.val * 8 + n.val, by omega⟩
/-- its column `d`, among all columns. -/
def colOn (c : Fin 4) (n : Fin 1024) : Fin 4096 := ⟨c.val * 1024 + n.val, by omega⟩

/-- A block of the columns of the query weights: its column `n` is column `colOn c n` of the whole. -/
theorem cols_at (w : (⟨2, ![1024, 4096]⟩ : Shape).Idx → EReal) (c : Fin 4) (r : Fin 1024) (n : Fin 1024) :
    Layout.block ⟨2, ![1024, 1024]⟩ ⟨2, ![1024, 4096]⟩ 1 4 c w (by decide) (ix2 r n) = w (ix2 r (colOn c n)) :=
  congrArg w (funext fun a => match a with
    | 0 => rfl
    | 1 => rfl)

/-- A block of the rows of the output weights: its row `n` is row `colOn c n` of the whole. -/
theorem rows_at (w : (⟨2, ![4096, 1024]⟩ : Shape).Idx → EReal) (c : Fin 4) (n : Fin 1024) (e : Fin 1024) :
    Layout.block ⟨2, ![1024, 1024]⟩ ⟨2, ![4096, 1024]⟩ 0 4 c w (by decide) (ix2 n e) = w (ix2 (colOn c n) e) :=
  congrArg w (funext fun a => match a with
    | 0 => rfl
    | 1 => rfl)

/-- A block of the heads of the keys or values: its head `n` is head `headOn c n` of the whole. -/
theorem heads_at (k : (⟨4, ![1, 4096, 32, 128]⟩ : Shape).Idx → EReal) (c : Fin 4) (j : Fin 4096) (n : Fin 8) (d : Fin 128) :
    Layout.block ⟨4, ![1, 4096, 8, 128]⟩ ⟨4, ![1, 4096, 32, 128]⟩ 2 4 c k (by decide) (ix4 0 j n d) = k (ix4 0 j (headOn c n) d) :=
  congrArg k (funext fun a => match a with
    | 0 => rfl
    | 1 => rfl
    | 2 => rfl
    | 3 => rfl)

section
variable (m : (ℓ : Loc Cert.KernelIdeal.nD Cert.KernelIdeal.τ Cert.KernelIdeal.sig) → Buf (Elt Ideal) ℓ)
  (x : FVec Ideal ⟨3, ![1, 256, 1024]⟩ .f32) (w : FVec Ideal ⟨2, ![1024, 4096]⟩ .f32) (k v : FVec Ideal ⟨4, ![1, 4096, 32, 128]⟩ .f32)
  (o : FVec Ideal ⟨2, ![4096, 1024]⟩ .f32)

/-- The devices hold the whole arrays' blocks. -/
def Blocks : Prop := ∀ c : Fin 4,
  Cert.KernelIdeal.Mesh.tokens m c = x
    ∧ Cert.KernelIdeal.Mesh.wq m c = Layout.block ⟨2, ![1024, 1024]⟩ ⟨2, ![1024, 4096]⟩ 1 4 c w (by decide)
    ∧ Cert.KernelIdeal.Mesh.keys m c = Layout.block ⟨4, ![1, 4096, 8, 128]⟩ ⟨4, ![1, 4096, 32, 128]⟩ 2 4 c k (by decide)
    ∧ Cert.KernelIdeal.Mesh.vals m c = Layout.block ⟨4, ![1, 4096, 8, 128]⟩ ⟨4, ![1, 4096, 32, 128]⟩ 2 4 c v (by decide)
    ∧ Cert.KernelIdeal.Mesh.wo m c = Layout.block ⟨2, ![1024, 1024]⟩ ⟨2, ![4096, 1024]⟩ 0 4 c o (by decide)

/-- The three arrays the scores are of are real on every device. -/
def Reals : Prop := ∀ c : Fin 4, (∀ i, IsReal (Cert.KernelIdeal.Mesh.tokens m c i))
  ∧ (∀ i, IsReal (Cert.KernelIdeal.Mesh.wq m c i)) ∧ ∀ i, IsReal (Cert.KernelIdeal.Mesh.keys m c i)

variable {m x w k v o} (hB : Blocks m x w k v o) (hR : Reals m)
include hB hR

/-- The whole arrays are real, each element lying in some device's block. -/
theorem tokens_real (i) : IsReal (x i) := (hB 0).1 ▸ (hR 0).1 i

/-- Every query weight is real: column `n` lies in the block of device `n / 1024`. -/
theorem weight_real (r : Fin 1024) (n : Fin 4096) : IsReal (w (ix2 r n)) := by
  have e : Cert.KernelIdeal.Mesh.wq m ⟨n.val / 1024, show _ < 4 by omega⟩ (ix2 r ⟨n.val % 1024, by omega⟩) = w (ix2 r n) := by
    rw [(hB _).2.1, cols_at]
    refine congrArg (fun a => w (ix2 r a)) (Fin.ext ?_)
    show n.val / 1024 * 1024 + n.val % 1024 = n.val
    omega
  exact e ▸ (hR _).2.1 _

/-- Every key is real: head `h` lies in the block of device `h / 8`. -/
theorem key_real (j : Fin 4096) (h : Fin 32) (d : Fin 128) : IsReal (k (ix4 0 j h d)) := by
  have e : Cert.KernelIdeal.Mesh.keys m ⟨h.val / 8, show _ < 4 by omega⟩ (ix4 0 j ⟨h.val % 8, by omega⟩ d) = k (ix4 0 j h d) := by
    rw [(hB _).2.2.1, heads_at]
    refine congrArg (fun a => k (ix4 0 j a d)) (Fin.ext ?_)
    show h.val / 8 * 8 + h.val % 8 = h.val
    omega
  exact e ▸ (hR _).2.2 _

/-- So the whole query weights are real, at any index, -/
theorem weights_real (i) : IsReal (w i) := (eq_ix2 i).symm ▸ weight_real hB hR (i 0) (i 1)

/-- and the whole keys. -/
theorem keys_real (i) : IsReal (k i) := by
  have e0 : i 0 = (0 : Fin 1) := @Subsingleton.elim (Fin 1) _ _ _
  have e : i = ix4 0 (i 1) (i 2) (i 3) := (eq_ix4 i).trans (congrArg (fun a => ix4 a (i 1) (i 2) (i 3)) e0)
  exact e.symm ▸ key_real hB hR (i 1) (i 2) (i 3)

/-! ## The two results -/

/-- A device's queries are the reference's of its heads; -/
theorem queries_on (c : Fin 4) (i : Fin 256) (n : Fin 8) (d : Fin 128) :
    Cert.KernelIdeal.Mesh.qAt m c (ix2 i (col n d)) = queries x w (ix4 0 i (headOn c n) d) := by
  rw [Cert.KernelIdeal.Mesh.q_at, Cert.ReferenceIdeal.Online.queries_at, (hB c).1, (hB c).2.1]
  refine Finset.sum_congr rfl fun r _ => ?_
  rw [cols_at]
  refine congrArg (fun a => x (ix3 0 i r) * w (ix2 r a)) (Fin.ext ?_)
  show c.val * 1024 + (n.val * 128 + d.val) = (c.val * 8 + n.val) * 128 + d.val
  omega

/-- its heads are the reference's; -/
theorem head_on (c : Fin 4) (i : Fin 256) (n : Fin 8) (d : Fin 128) :
    headAt i d m c n = mean (score (queries x w) k (headOn c n) i) fun j => v (ix4 0 j (headOn c n) d) := by
  unfold headAt
  refine congrArg₂ mean (funext fun j => ?_) (funext fun j => ?_)
  · simp only [queries_on hB hR]
    rw [(hB c).2.2.1]
    simp only [heads_at]
    refine score_scale (fun e => ?_) (fun e => keys_real hB hR _) Cert.ReferenceIdeal.Online.scale_real
    rw [Cert.ReferenceIdeal.Online.queries_at]
    exact IsReal.sum fun r _ => (tokens_real hB hR _).mul (weights_real hB hR _)
  · rw [(hB c).2.2.2.1, heads_at]

/-- and the sum of the parts is the reference's result. -/
theorem parts_sum (i : Fin 256) (e : Fin 1024) :
    ∑ c : Fin 4, part i m c e = Cert.ReferenceIdeal.Online.result x w k v o (ix3 0 i e) := by
  rw [Cert.ReferenceIdeal.Online.result_value x w k v o (tokens_real hB hR) (weights_real hB hR) (keys_real hB hR),
    sum_blocks 4 8 32 rfl]
  refine Finset.sum_congr rfl fun c _ => Finset.sum_congr rfl fun n _ => Finset.sum_congr rfl fun d _ => ?_
  rw [head_on hB hR, (hB c).2.2.2.2, rows_at]
  refine congrArg (fun a => _ * o (ix2 a e)) (Fin.ext ?_)
  show c.val * 1024 + (n.val * 128 + d.val) = (c.val * 8 + n.val) * 128 + d.val
  omega

/-- Every device ends with the reference's result. -/
theorem out_eq (c : Fin 4) : Cert.KernelIdeal.Mesh.outAt m c = Cert.ReferenceIdeal.Online.result x w k v o := by
  funext y
  have e0 : y 0 = (0 : Fin 1) := @Subsingleton.elim (Fin 1) _ _ _
  have e : y = ix3 0 (y 1) (y 2) := (eq_ix3 y).trans (congrArg (fun a => ix3 a (y 1) (y 2)) e0)
  rw [e]
  exact (Cert.KernelIdeal.Mesh.out_at (y 1) m c (y 2)).trans (parts_sum hB hR (y 1) (y 2))

end

/-! ## The claim -/

/-- On real tokens, query weights and keys, every device ends with the reference's result. -/
theorem algebraic [Cert.Pre_finite_KernelIdeal.Facts] : Cert.algebraic_KernelIdeal_ReferenceIdeal_pre_finite_KernelIdeal := by
  intro m g m' g' hP hM
  have hB : Blocks m _ _ _ _ _ := hM
  have hR : Reals m := fun c => finite_real _ _ _ _ _ (hP c)
  refine ⟨Cert.ReferenceIdeal.Value.res_main_v101 (F := Ideal) m' 0, ?_, ?_⟩
  · refine (θ_run Cert.KernelIdeal.defs _ _).mono (fun r h c => ⟨(h.1 c).1.trans ((out_eq hB hR c).trans (Cert.ReferenceIdeal.Online.run_result m' 0).symm), (h.1 c).2⟩)
      (Cert.KernelIdeal.Mesh.run_main (F := Ideal) m g)
  · refine (θ_run Cert.ReferenceIdeal.defs _ _).mono (fun r h => h 0)
      (Cert.ReferenceIdeal.Value.run (F := Ideal) m' g')

end Cert.Proof

end
-- ==== Proof.lean ====
/-
The certificate: what each program alone does, that the kernel over the reals is the printed kernel, and that over the
reals the kernel on its four devices computes the reference.
-/
module

public import proofs.«01_k».proof.Defs
public import proofs.«01_k».proof.Proof.Frames
public import proofs.«01_k».proof.Proof.Algebraic

@[expose] public section

noncomputable section

namespace Cert.Proof

/-- Everything claimed. The frames hold of every memory, so of those of the precondition too; no operation was rewritten, so
the two readings of the kernel agree by their text. -/
theorem claim : Cert.Claim :=
  ⟨Cert.Kernel.Gen.facts, Cert.KernelIdeal.Gen.facts, Cert.ReferenceIdeal.Gen.facts, facts_finite_kernel, facts_finite_reference,
    frame_kernel, frame_ideal, fun m ρ _ => frame_ideal m ρ trivial, frame_reference, fun m ρ _ => frame_reference m ρ trivial,
    trivial, @algebraic facts_finite_kernel⟩

end Cert.Proof

end
